-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "sqrt_half" .bf16 0x3F35#16 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v301) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S4 : Shape := ⟨1, ![4]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x4 : Shape := ⟨2, ![1024, 4]⟩
abbrev S4x1024 : Shape := ⟨2, ![4, 1024]⟩
abbrev S2x4x3 : Shape := ⟨3, ![2, 4, 3]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S2x4x3 : S_.BroadcastsInDim S2x4x3 (![] : Fin 0 → Fin S2x4x3.rank)
  reducesTo_S2x4x3_S_d0_1_2 : S2x4x3.ReducesTo [0, 1, 2] S_

variable [Facts]

def fn {F : FTy → Type} [FloatOps F] (main_arg0 : FVec F S4x2048x1024 .f32) (main_arg1 : FVec F S4 .f32) (main_arg2 : FVec F S1024x4096 .f32) (main_arg3 : FVec F S4096 .f32) (main_arg4 : FVec F S4096x1024 .f32) (main_arg5 : FVec F S1024 .f32) (main_arg6 : FVec F S1024x4 .f32) (main_arg7 : FVec F S4 .f32) (main_arg8 : FVec F S4x1024 .f32) (main_arg9 : FVec F S1024 .f32) (main_arg10 : FVec F S2x4x3 .f32) (main_arg11 : FVec F S_ .f32) (main_arg12 : FVec F S1024 .f32) (main_arg13 : FVec F S1024 .f32) : IVec S_ 1 :=
  let main_v0 : FVec F S4x1024 .f32 := Host.absf main_arg8
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S2x4x3 .f32 := Host.absf main_arg10
  let main_cst_0 : FVec F S_ .f32 := constant S_ .f32 0x7F800000#32
  let main_v5 : FVec F S2x4x3 .f32 := broadcastInDim S2x4x3 ![] bcast_S_S2x4x3 main_cst_0
  let main_v6 : IVec S2x4x3 1 := cmpf .olt main_v4 main_v5
  let main_c_1 : IVec S_ 1 := constantI S_ 1 1#1
  let main_v7 : IVec S_ 1 := (fun x v => Host.reduce IntOp.andi x v reducesTo_S2x4x3_S_d0_1_2 h_S_) main_v6 main_c_1
  let main_v8 : IVec S_ 1 := andi main_v3 main_v7
  let main_v9 : FVec F S_ .f32 := Host.absf main_arg11
  let main_cst_2 : FVec F S_ .f32 := constant S_ .f32 0x7F800000#32
  let main_v10 : IVec S_ 1 := cmpf .olt main_v9 main_cst_2
  let main_v11 : IVec S_ 1 := andi main_v8 main_v10
  main_v11
-- ==== Kernel.lean ====
abbrev S4x2048x1024 : Shape := ⟨3, ![4, 2048, 1024]⟩
abbrev S4 : Shape := ⟨1, ![4]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x4 : Shape := ⟨2, ![1024, 4]⟩
abbrev S4x1024 : Shape := ⟨2, ![4, 1024]⟩
abbrev S2x4x3 : Shape := ⟨3, ![2, 4, 3]⟩
abbrev S_ : Shape := ⟨0, ![]⟩
abbrev S4x2x2x16x16 : Shape := ⟨5, ![4, 2, 2, 16, 16]⟩
abbrev S2x4x1 : Shape := ⟨3, ![2, 4, 1]⟩
abbrev S2x4 : Shape := ⟨2, ![2, 4]⟩
abbrev S2x4x2 : Shape := ⟨3, ![2, 4, 2]⟩
abbrev S2x4x1x2 : Shape := ⟨4, ![2, 4, 1, 2]⟩
abbrev S2x4x2x2 : Shape := ⟨4, ![2, 4, 2, 2]⟩
abbrev S2x4x2x2x1x1 : Shape := ⟨6, ![2, 4, 2, 2, 1, 1]⟩
abbrev S1x4x2x2x16x16 : Shape := ⟨6, ![1, 4, 2, 2, 16, 16]⟩
abbrev S2x4x2x2x16x16 : Shape := ⟨6, ![2, 4, 2, 2, 16, 16]⟩
abbrev S2x4x16x16 : Shape := ⟨4, ![2, 4, 16, 16]⟩
abbrev S8x16x16 : Shape := ⟨3, ![8, 16, 16]⟩
abbrev S8x1024 : Shape := ⟨2, ![8, 1024]⟩
abbrev S16x16 : Shape := ⟨2, ![16, 16]⟩
abbrev S2x16 : Shape := ⟨2, ![2, 16]⟩
abbrev S16x8 : Shape := ⟨2, ![16, 8]⟩
abbrev S1x4096 : Shape := ⟨2, ![1, 4096]⟩
abbrev S1x1024 : Shape := ⟨2, ![1, 1024]⟩
abbrev S1x4 : Shape := ⟨2, ![1, 4]⟩
abbrev S1x1 : Shape := ⟨2, ![1, 1]⟩
abbrev S1x512x1024 : Shape := ⟨3, ![1, 512, 1024]⟩
abbrev S16x1024 : Shape := ⟨2, ![16, 1024]⟩
abbrev S1x16x16 : Shape := ⟨3, ![1, 16, 16]⟩
abbrev S1x16 : Shape := ⟨2, ![1, 16]⟩
abbrev S512x1024 : Shape := ⟨2, ![512, 1024]⟩
abbrev S1 : Shape := ⟨1, ![1]⟩
abbrev S512x4096 : Shape := ⟨2, ![512, 4096]⟩
abbrev S512 : Shape := ⟨1, ![512]⟩
abbrev S512x1 : Shape := ⟨2, ![512, 1]⟩
abbrev S512x4 : Shape := ⟨2, ![512, 4]⟩
abbrev S512x16 : Shape := ⟨2, ![512, 16]⟩

abbrev nBuf : Space → Nat
  | .hbm => 109
  | .vmem => 24
  | .smem => 1
  | _ => 0

abbrev bufTy : (tb : Table) → Fin (tcTables nBuf tb) → BufTy
  | .hbm, ⟨0, _⟩ => ⟨S4x2048x1024, .f32⟩
  | .hbm, ⟨1, _⟩ => ⟨S4, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S4x1024, .f32⟩
  | .hbm, ⟨9, _⟩ => ⟨S1024, .f32⟩
  | .hbm, ⟨10, _⟩ => ⟨S2x4x3, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S4x2x2x16x16, .f32⟩
  | .hbm, ⟨15, _⟩ => ⟨S_, .f32⟩
  | .hbm, ⟨16, _⟩ => ⟨S4, .f32⟩
  | .hbm, ⟨17, _⟩ => ⟨S4, .i1⟩
  | .hbm, ⟨18, _⟩ => ⟨S2x4x1, .f32⟩
  | .hbm, ⟨19, _⟩ => ⟨S2x4, .f32⟩
  | .hbm, ⟨20, _⟩ => ⟨S2x4x1, .f32⟩
  | .hbm, ⟨21, _⟩ => ⟨S2x4, .f32⟩
  | .hbm, ⟨22, _⟩ => ⟨S2x4x1, .f32⟩
  | .hbm, ⟨23, _⟩ => ⟨S2x4, .f32⟩
  | .hbm, ⟨24, _⟩ => ⟨S_, .f32⟩
  | .hbm, ⟨25, _⟩ => ⟨S2x4, .f32⟩
  | .hbm, ⟨26, _⟩ => ⟨S2x4, .f32⟩
  | .hbm, ⟨27, _⟩ => ⟨S2x4, .f32⟩
  | .hbm, ⟨28, _⟩ => ⟨S_, .f32⟩
  | .hbm, ⟨29, _⟩ => ⟨S2x4, .f32⟩
  | .hbm, ⟨30, _⟩ => ⟨S2x4, .f32⟩
  | .hbm, ⟨31, _⟩ => ⟨S2x4, .f32⟩
  | .hbm, ⟨32, _⟩ => ⟨S2x4, .f32⟩
  | .hbm, ⟨33, _⟩ => ⟨S_, .f32⟩
  | .hbm, ⟨34, _⟩ => ⟨S2x4, .f32⟩
  | .hbm, ⟨35, _⟩ => ⟨S2x4, .f32⟩
  | .hbm, ⟨36, _⟩ => ⟨S2x4, .f32⟩
  | .hbm, ⟨37, _⟩ => ⟨S_, .f32⟩
  | .hbm, ⟨38, _⟩ => ⟨S2x4, .f32⟩
  | .hbm, ⟨39, _⟩ => ⟨S2x4, .f32⟩
  | .hbm, ⟨40, _⟩ => ⟨S2x4, .f32⟩
  | .hbm, ⟨41, _⟩ => ⟨S2x4, .f32⟩
  | .hbm, ⟨42, _⟩ => ⟨S2x4, .f32⟩
  | .hbm, ⟨43, _⟩ => ⟨S2x4, .f32⟩
  | .hbm, ⟨44, _⟩ => ⟨S2x4, .f32⟩
  | .hbm, ⟨45, _⟩ => ⟨S2x4, .f32⟩
  | .hbm, ⟨46, _⟩ => ⟨S2x4, .f32⟩
  | .hbm, ⟨47, _⟩ => ⟨S2x4x1, .f32⟩
  | .hbm, ⟨48, _⟩ => ⟨S2x4x1, .f32⟩
  | .hbm, ⟨49, _⟩ => ⟨S2x4x2, .f32⟩
  | .hbm, ⟨50, _⟩ => ⟨S2x4, .f32⟩
  | .hbm, ⟨51, _⟩ => ⟨S2x4, .f32⟩
  | .hbm, ⟨52, _⟩ => ⟨S2x4x1, .f32⟩
  | .hbm, ⟨53, _⟩ => ⟨S2x4x1, .f32⟩
  | .hbm, ⟨54, _⟩ => ⟨S2x4x2, .f32⟩
  | .hbm, ⟨55, _⟩ => ⟨S2x4x1x2, .f32⟩
  | .hbm, ⟨56, _⟩ => ⟨S2x4x1x2, .f32⟩
  | .hbm, ⟨57, _⟩ => ⟨S2x4x2x2, .f32⟩
  | .hbm, ⟨58, _⟩ => ⟨S2x4, .f32⟩
  | .hbm, ⟨59, _⟩ => ⟨S2x4, .f32⟩
  | .hbm, ⟨60, _⟩ => ⟨S2x4, .f32⟩
  | .hbm, ⟨61, _⟩ => ⟨S2x4, .f32⟩
  | .hbm, ⟨62, _⟩ => ⟨S2x4x1, .f32⟩
  | .hbm, ⟨63, _⟩ => ⟨S2x4x1, .f32⟩
  | .hbm, ⟨64, _⟩ => ⟨S2x4x2, .f32⟩
  | .hbm, ⟨65, _⟩ => ⟨S2x4, .f32⟩
  | .hbm, ⟨66, _⟩ => ⟨S2x4, .f32⟩
  | .hbm, ⟨67, _⟩ => ⟨S2x4, .f32⟩
  | .hbm, ⟨68, _⟩ => ⟨S2x4x1, .f32⟩
  | .hbm, ⟨69, _⟩ => ⟨S2x4x1, .f32⟩
  | .hbm, ⟨70, _⟩ => ⟨S2x4x2, .f32⟩
  | .hbm, ⟨71, _⟩ => ⟨S2x4x1x2, .f32⟩
  | .hbm, ⟨72, _⟩ => ⟨S2x4x1x2, .f32⟩
  | .hbm, ⟨73, _⟩ => ⟨S2x4x2x2, .f32⟩
  | .hbm, ⟨74, _⟩ => ⟨S2x4x2x2x1x1, .f32⟩
  | .hbm, ⟨75, _⟩ => ⟨S1x4x2x2x16x16, .f32⟩
  | .hbm, ⟨76, _⟩ => ⟨S2x4x2x2x16x16, .f32⟩
  | .hbm, ⟨77, _⟩ => ⟨S2x4x2x2x16x16, .f32⟩
  | .hbm, ⟨78, _⟩ => ⟨S2x4x2x2x16x16, .f32⟩
  | .hbm, ⟨79, _⟩ => ⟨S_, .f32⟩
  | .hbm, ⟨80, _⟩ => ⟨S2x4x16x16, .f32⟩
  | .hbm, ⟨81, _⟩ => ⟨S8x16x16, .f32⟩
  | .hbm, ⟨82, _⟩ => ⟨S2x4x2x2x1x1, .f32⟩
  | .hbm, ⟨83, _⟩ => ⟨S1x4x2x2x16x16, .f32⟩
  | .hbm, ⟨84, _⟩ => ⟨S2x4x2x2x16x16, .f32⟩
  | .hbm, ⟨85, _⟩ => ⟨S2x4x2x2x16x16, .f32⟩
  | .hbm, ⟨86, _⟩ => ⟨S2x4x2x2x16x16, .f32⟩
  | .hbm, ⟨87, _⟩ => ⟨S_, .f32⟩
  | .hbm, ⟨88, _⟩ => ⟨S2x4x16x16, .f32⟩
  | .hbm, ⟨89, _⟩ => ⟨S8x16x16, .f32⟩
  | .hbm, ⟨90, _⟩ => ⟨S_, .f32⟩
  | .hbm, ⟨91, _⟩ => ⟨S4x1024, .f32⟩
  | .hbm, ⟨92, _⟩ => ⟨S8x1024, .f32⟩
  | .hbm, ⟨93, _⟩ => ⟨S_, .f32⟩
  | .hbm, ⟨94, _⟩ => ⟨S1024x4096, .bf16⟩
  | .hbm, ⟨95, _⟩ => ⟨S4096x1024, .bf16⟩
  | .hbm, ⟨96, _⟩ => ⟨S1024x4, .bf16⟩
  | .hbm, ⟨97, _⟩ => ⟨S16x16, .f32⟩
  | .hbm, ⟨98, _⟩ => ⟨S16x16, .f32⟩
  | .hbm, ⟨99, _⟩ => ⟨S2x16, .f32⟩
  | .hbm, ⟨100, _⟩ => ⟨S16x8, .f32⟩
  | .hbm, ⟨101, _⟩ => ⟨S1x4096, .f32⟩
  | .hbm, ⟨102, _⟩ => ⟨S1x1024, .f32⟩
  | .hbm, ⟨103, _⟩ => ⟨S1x4, .f32⟩
  | .hbm, ⟨104, _⟩ => ⟨S1x1024, .f32⟩
  | .hbm, ⟨105, _⟩ => ⟨S1x1, .f32⟩
  | .hbm, ⟨106, _⟩ => ⟨S1x1024, .f32⟩
  | .hbm, ⟨107, _⟩ => ⟨S1x1024, .f32⟩
  | .hbm, ⟨108, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S1024x4, .bf16⟩
  | .local _ .vmem, ⟨7, _⟩ => ⟨S1x4, .f32⟩
  | .local _ .vmem, ⟨8, _⟩ => ⟨S8x16x16, .f32⟩
  | .local _ .vmem, ⟨9, _⟩ => ⟨S8x16x16, .f32⟩
  | .local _ .vmem, ⟨10, _⟩ => ⟨S8x1024, .f32⟩
  | .local _ .vmem, ⟨11, _⟩ => ⟨S1x1024, .f32⟩
  | .local _ .vmem, ⟨12, _⟩ => ⟨S1x1, .f32⟩
  | .local _ .vmem, ⟨13, _⟩ => ⟨S1x1024, .f32⟩
  | .local _ .vmem, ⟨14, _⟩ => ⟨S1x1024, .f32⟩
  | .local _ .vmem, ⟨15, _⟩ => ⟨S16x16, .f32⟩
  | .local _ .vmem, ⟨16, _⟩ => ⟨S16x16, .f32⟩
  | .local _ .vmem, ⟨17, _⟩ => ⟨S2x16, .f32⟩
  | .local _ .vmem, ⟨18, _⟩ => ⟨S16x8, .f32⟩
  | .local _ .vmem, ⟨19, _⟩ => ⟨S1x512x1024, .f32⟩
  | .local _ .vmem, ⟨20, _⟩ => ⟨S1x512x1024, .f32⟩
  | .local _ .vmem, ⟨21, _⟩ => ⟨S16x16, .f32⟩
  | .local _ .vmem, ⟨22, _⟩ => ⟨S16x16, .f32⟩
  | .local _ .vmem, ⟨23, _⟩ => ⟨S16x1024, .f32⟩
  | .local _ .smem, ⟨0, _⟩ => ⟨S4, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_5 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_cst_7 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call0_cst : Ref sig .tc := ⟨.hbm, 97, rfl⟩
abbrev main_call0_cst_0 : Ref sig .tc := ⟨.hbm, 98, rfl⟩
abbrev main_call0_cst_1 : Ref sig .tc := ⟨.hbm, 99, rfl⟩
abbrev main_call0_cst_2 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_call0_v5 : Ref sig .tc := ⟨.hbm, 106, rfl⟩
abbrev main_call0_v6 : Ref sig .tc := ⟨.hbm, 107, rfl⟩
abbrev main_v75 : Ref sig .tc := ⟨.hbm, 108, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v7 : Index := Scalar.indexCast arg0
  ![v7.toNat]
def k0_off2 (i : grid0.Coords) : Fin 1 → Nat :=
  let arg0 : BitVec 32 := BitVec.ofNat 32 (i 0).val
  let v12 : Index := Scalar.indexCast arg0
  ![v12.toNat]
def k0_cond2 (v8 : BitVec 32) : BitVec 1 :=
  let c0_i32_4 : BitVec 32 := 0#32
  let v9 : BitVec 1 := Scalar.cmpi .eq v8 c0_i32_4
  let v10 : BitVec 32 := Scalar.extui v9
  let c0_i32_5 : BitVec 32 := 0#32
  let v11 : BitVec 1 := Scalar.cmpi .ne v10 c0_i32_5
  v11

def k0_cond3 (v13 : BitVec 32) : BitVec 1 :=
  let c0_i32_6 : BitVec 32 := 0#32
  let v14 : BitVec 1 := Scalar.cmpi .ne v13 c0_i32_6
  let v15 : BitVec 32 := Scalar.extui v14
  let c0_i32_7 : BitVec 32 := 0#32
  let v16 : BitVec 1 := Scalar.cmpi .ne v15 c0_i32_7
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S16x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S16x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
abbrev S4x2048x1024 : Shape := ⟨3, ![4, 2048, 1024]⟩
abbrev S4 : Shape := ⟨1, ![4]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x4 : Shape := ⟨2, ![1024, 4]⟩
abbrev S4x1024 : Shape := ⟨2, ![4, 1024]⟩
abbrev S2x4x3 : Shape := ⟨3, ![2, 4, 3]⟩
abbrev S_ : Shape := ⟨0, ![]⟩
abbrev S16x16 : Shape := ⟨2, ![16, 16]⟩
abbrev S16x4 : Shape := ⟨2, ![16, 4]⟩
abbrev S4x2048x4096 : Shape := ⟨3, ![4, 2048, 4096]⟩
abbrev S1x1x4096 : Shape := ⟨3, ![1, 1, 4096]⟩
abbrev S1x1x1024 : Shape := ⟨3, ![1, 1, 1024]⟩
abbrev S4x2048x4 : Shape := ⟨3, ![4, 2048, 4]⟩
abbrev S1x1x4 : Shape := ⟨3, ![1, 1, 4]⟩
abbrev S8192x4 : Shape := ⟨2, ![8192, 4]⟩
abbrev S8192x4x1 : Shape := ⟨3, ![8192, 4, 1]⟩
abbrev S8192x4x2 : Shape := ⟨3, ![8192, 4, 2]⟩
abbrev S8192x1x2 : Shape := ⟨3, ![8192, 1, 2]⟩
abbrev S8192x2 : Shape := ⟨2, ![8192, 2]⟩
abbrev S8192x2x1 : Shape := ⟨3, ![8192, 2, 1]⟩
abbrev S8192x2x2 : Shape := ⟨3, ![8192, 2, 2]⟩
abbrev S8192x8 : Shape := ⟨2, ![8192, 8]⟩
abbrev S8192x8x1 : Shape := ⟨3, ![8192, 8, 1]⟩
abbrev S8192x8x2 : Shape := ⟨3, ![8192, 8, 2]⟩
abbrev S8192x16 : Shape := ⟨2, ![8192, 16]⟩
abbrev S2x4x1 : Shape := ⟨3, ![2, 4, 1]⟩
abbrev S2x4 : Shape := ⟨2, ![2, 4]⟩
abbrev S2x4x4 : Shape := ⟨3, ![2, 4, 4]⟩
abbrev S2x4x2x2 : Shape := ⟨4, ![2, 4, 2, 2]⟩
abbrev S2x1x2x2 : Shape := ⟨4, ![2, 1, 2, 2]⟩
abbrev S2x2x2 : Shape := ⟨3, ![2, 2, 2]⟩
abbrev S2x2x1x2x1 : Shape := ⟨5, ![2, 2, 1, 2, 1]⟩
abbrev S2x1x2x1x2 : Shape := ⟨5, ![2, 1, 2, 1, 2]⟩
abbrev S2x2x2x2x2 : Shape := ⟨5, ![2, 2, 2, 2, 2]⟩
abbrev S2x4x1x4x1 : Shape := ⟨5, ![2, 4, 1, 4, 1]⟩
abbrev S2x4x2x4x2 : Shape := ⟨5, ![2, 4, 2, 4, 2]⟩
abbrev S2x8x8 : Shape := ⟨3, ![2, 8, 8]⟩
abbrev S2x8x1x8x1 : Shape := ⟨5, ![2, 8, 1, 8, 1]⟩
abbrev S2x8x2x8x2 : Shape := ⟨5, ![2, 8, 2, 8, 2]⟩
abbrev S2x16x16 : Shape := ⟨3, ![2, 16, 16]⟩
abbrev S1x16x16 : Shape := ⟨3, ![1, 16, 16]⟩
abbrev S8192x1024 : Shape := ⟨2, ![8192, 1024]⟩
abbrev S1x1024 : Shape := ⟨2, ![1, 1024]⟩
abbrev S4x1x1 : Shape := ⟨3, ![4, 1, 1]⟩
abbrev S4x2048 : Shape := ⟨2, ![4, 2048]⟩
abbrev S4x2048x1 : Shape := ⟨3, ![4, 2048, 1]⟩

abbrev nBuf : Space → Nat
  | .hbm => 366
  | .vmem => 0
  | .smem => 0
  | _ => 0

abbrev hbmTy0_0 (i : Nat) : BufTy := match i % 128 with
  | 0 => ⟨S4x2048x1024, .f32⟩
  | 1 => ⟨S4, .f32⟩
  | 2 => ⟨S1024x4096, .f32⟩
  | 3 => ⟨S4096, .f32⟩
  | 4 => ⟨S4096x1024, .f32⟩
  | 5 => ⟨S1024, .f32⟩
  | 6 => ⟨S1024x4, .f32⟩
  | 7 => ⟨S4, .f32⟩
  | 8 => ⟨S4x1024, .f32⟩
  | 9 => ⟨S1024, .f32⟩
  | 10 => ⟨S2x4x3, .f32⟩
  | 11 => ⟨S_, .f32⟩
  | 12 => ⟨S1024, .f32⟩
  | 13 => ⟨S1024, .f32⟩
  | 14 => ⟨S16x16, .f32⟩
  | 15 => ⟨S16x16, .f32⟩
  | 16 => ⟨S16x4, .f32⟩
  | 17 => ⟨S4x2048x4096, .f32⟩
  | 18 => ⟨S1x1x4096, .f32⟩
  | 19 => ⟨S4x2048x4096, .f32⟩
  | 20 => ⟨S4x2048x4096, .f32⟩
  | 21 => ⟨S_, .f32⟩
  | 22 => ⟨S4x2048x4096, .f32⟩
  | 23 => ⟨S4x2048x4096, .f32⟩
  | 24 => ⟨S4x2048x4096, .f32⟩
  | 25 => ⟨S_, .f32⟩
  | 26 => ⟨S_, .f32⟩
  | 27 => ⟨S4x2048x4096, .f32⟩
  | 28 => ⟨S4x2048x4096, .f32⟩
  | 29 => ⟨S4x2048x4096, .f32⟩
  | 30 => ⟨S4x2048x4096, .f32⟩
  | 31 => ⟨S4x2048x1024, .f32⟩
  | 32 => ⟨S1x1x1024, .f32⟩
  | 33 => ⟨S4x2048x1024, .f32⟩
  | 34 => ⟨S4x2048x1024, .f32⟩
  | 35 => ⟨S4x2048x1024, .f32⟩
  | 36 => ⟨S4x2048x4, .f32⟩
  | 37 => ⟨S1x1x4, .f32⟩
  | 38 => ⟨S4x2048x4, .f32⟩
  | 39 => ⟨S4x2048x4, .f32⟩
  | 40 => ⟨S_, .f32⟩
  | 41 => ⟨S_, .f32⟩
  | 42 => ⟨S_, .f32⟩
  | 43 => ⟨S4x2048x4, .f32⟩
  | 44 => ⟨S4x2048x4, .f32⟩
  | 45 => ⟨S_, .f32⟩
  | 46 => ⟨S4x2048x4, .f32⟩
  | 47 => ⟨S4x2048x4, .f32⟩
  | 48 => ⟨S4x2048x4, .f32⟩
  | 49 => ⟨S4x2048x4, .f32⟩
  | 50 => ⟨S_, .f32⟩
  | 51 => ⟨S4x2048x4, .f32⟩
  | 52 => ⟨S4x2048x4, .f32⟩
  | 53 => ⟨S_, .f32⟩
  | 54 => ⟨S4x2048x4, .f32⟩
  | 55 => ⟨S4x2048x4, .f32⟩
  | 56 => ⟨S_, .f32⟩
  | 57 => ⟨S4x2048x4, .f32⟩
  | 58 => ⟨S4x2048x4, .f32⟩
  | 59 => ⟨S8192x4, .f32⟩
  | 60 => ⟨S_, .f32⟩
  | 61 => ⟨S8192x4, .f32⟩
  | 62 => ⟨S8192x4, .f32⟩
  | 63 => ⟨S8192x4, .f32⟩
  | 64 => ⟨S_, .f32⟩
  | 65 => ⟨S8192x4, .f32⟩
  | 66 => ⟨S8192x4, .f32⟩
  | 67 => ⟨S8192x4, .f32⟩
  | 68 => ⟨S_, .f32⟩
  | 69 => ⟨S8192x4, .f32⟩
  | 70 => ⟨S8192x4x1, .f32⟩
  | 71 => ⟨S8192x4x1, .f32⟩
  | 72 => ⟨S8192x4x2, .f32⟩
  | 73 => ⟨S8192x4, .f32⟩
  | 74 => ⟨S8192x4x1, .f32⟩
  | 75 => ⟨S8192x4x1, .f32⟩
  | 76 => ⟨S8192x4x2, .f32⟩
  | 77 => ⟨S8192x1x2, .f32⟩
  | 78 => ⟨S8192x2, .f32⟩
  | 79 => ⟨S8192x1x2, .f32⟩
  | 80 => ⟨S8192x2, .f32⟩
  | 81 => ⟨S8192x1x2, .f32⟩
  | 82 => ⟨S8192x2, .f32⟩
  | 83 => ⟨S8192x1x2, .f32⟩
  | 84 => ⟨S8192x2, .f32⟩
  | 85 => ⟨S8192x1x2, .f32⟩
  | 86 => ⟨S8192x2, .f32⟩
  | 87 => ⟨S8192x1x2, .f32⟩
  | 88 => ⟨S8192x2, .f32⟩
  | 89 => ⟨S8192x1x2, .f32⟩
  | 90 => ⟨S8192x2, .f32⟩
  | 91 => ⟨S8192x1x2, .f32⟩
  | 92 => ⟨S8192x2, .f32⟩
  | 93 => ⟨S8192x2x1, .f32⟩
  | 94 => ⟨S8192x2x1, .f32⟩
  | 95 => ⟨S8192x1x2, .f32⟩
  | 96 => ⟨S8192x1x2, .f32⟩
  | 97 => ⟨S8192x2x2, .f32⟩
  | 98 => ⟨S8192x2x2, .f32⟩
  | 99 => ⟨S8192x2x2, .f32⟩
  | 100 => ⟨S8192x2x2, .f32⟩
  | 101 => ⟨S8192x2x2, .f32⟩
  | 102 => ⟨S8192x2x2, .f32⟩
  | 103 => ⟨S8192x2x2, .f32⟩
  | 104 => ⟨S8192x2x2, .f32⟩
  | 105 => ⟨S8192x2x2, .f32⟩
  | 106 => ⟨S8192x2x2, .f32⟩
  | 107 => ⟨S8192x2x2, .f32⟩
  | 108 => ⟨S8192x2x2, .f32⟩
  | 109 => ⟨S8192x2x2, .f32⟩
  | 110 => ⟨S8192x2x2, .f32⟩
  | 111 => ⟨S8192x4, .f32⟩
  | 112 => ⟨S8192x4, .f32⟩
  | 113 => ⟨S8192x4x1, .f32⟩
  | 114 => ⟨S8192x4x1, .f32⟩
  | 115 => ⟨S8192x1x2, .f32⟩
  | 116 => ⟨S8192x1x2, .f32⟩
  | 117 => ⟨S8192x4x2, .f32⟩
  | 118 => ⟨S8192x4x2, .f32⟩
  | 119 => ⟨S8192x4x2, .f32⟩
  | 120 => ⟨S8192x4x2, .f32⟩
  | 121 => ⟨S8192x4x2, .f32⟩
  | 122 => ⟨S8192x4x2, .f32⟩
  | 123 => ⟨S8192x4x2, .f32⟩
  | 124 => ⟨S8192x4x2, .f32⟩
  | 125 => ⟨S8192x4x2, .f32⟩
  | 126 => ⟨S8192x4x2, .f32⟩
  | 127 => ⟨S8192x4x2, .f32⟩
  | _ => ⟨S4x2048x1024, .f32⟩

abbrev hbmTy0_1 (i : Nat) : BufTy := match i % 128 with
  | 0 => ⟨S8192x4x2, .f32⟩
  | 1 => ⟨S8192x4x2, .f32⟩
  | 2 => ⟨S8192x4x2, .f32⟩
  | 3 => ⟨S8192x8, .f32⟩
  | 4 => ⟨S8192x8, .f32⟩
  | 5 => ⟨S8192x8x1, .f32⟩
  | 6 => ⟨S8192x8x1, .f32⟩
  | 7 => ⟨S8192x1x2, .f32⟩
  | 8 => ⟨S8192x1x2, .f32⟩
  | 9 => ⟨S8192x8x2, .f32⟩
  | 10 => ⟨S8192x8x2, .f32⟩
  | 11 => ⟨S8192x8x2, .f32⟩
  | 12 => ⟨S8192x8x2, .f32⟩
  | 13 => ⟨S8192x8x2, .f32⟩
  | 14 => ⟨S8192x8x2, .f32⟩
  | 15 => ⟨S8192x8x2, .f32⟩
  | 16 => ⟨S8192x8x2, .f32⟩
  | 17 => ⟨S8192x8x2, .f32⟩
  | 18 => ⟨S8192x8x2, .f32⟩
  | 19 => ⟨S8192x8x2, .f32⟩
  | 20 => ⟨S8192x8x2, .f32⟩
  | 21 => ⟨S8192x8x2, .f32⟩
  | 22 => ⟨S8192x8x2, .f32⟩
  | 23 => ⟨S8192x16, .f32⟩
  | 24 => ⟨S8192x16, .f32⟩
  | 25 => ⟨S2x4x1, .f32⟩
  | 26 => ⟨S2x4, .f32⟩
  | 27 => ⟨S2x4x1, .f32⟩
  | 28 => ⟨S2x4, .f32⟩
  | 29 => ⟨S2x4x1, .f32⟩
  | 30 => ⟨S2x4, .f32⟩
  | 31 => ⟨S_, .f32⟩
  | 32 => ⟨S2x4, .f32⟩
  | 33 => ⟨S2x4, .f32⟩
  | 34 => ⟨S2x4, .f32⟩
  | 35 => ⟨S_, .f32⟩
  | 36 => ⟨S2x4, .f32⟩
  | 37 => ⟨S2x4, .f32⟩
  | 38 => ⟨S2x4, .f32⟩
  | 39 => ⟨S2x4, .f32⟩
  | 40 => ⟨S_, .f32⟩
  | 41 => ⟨S2x4, .f32⟩
  | 42 => ⟨S2x4, .f32⟩
  | 43 => ⟨S2x4, .f32⟩
  | 44 => ⟨S_, .f32⟩
  | 45 => ⟨S2x4, .f32⟩
  | 46 => ⟨S2x4, .f32⟩
  | 47 => ⟨S2x4, .f32⟩
  | 48 => ⟨S2x4, .f32⟩
  | 49 => ⟨S2x4, .f32⟩
  | 50 => ⟨S2x4, .f32⟩
  | 51 => ⟨S2x4, .f32⟩
  | 52 => ⟨S2x4, .f32⟩
  | 53 => ⟨S2x4, .f32⟩
  | 54 => ⟨S2x4, .f32⟩
  | 55 => ⟨S2x4, .f32⟩
  | 56 => ⟨S2x4x1, .f32⟩
  | 57 => ⟨S2x4x1, .f32⟩
  | 58 => ⟨S2x4x1, .f32⟩
  | 59 => ⟨S2x4x1, .f32⟩
  | 60 => ⟨S2x4x4, .f32⟩
  | 61 => ⟨S2x4, .f32⟩
  | 62 => ⟨S2x4, .f32⟩
  | 63 => ⟨S2x4, .f32⟩
  | 64 => ⟨S2x4, .f32⟩
  | 65 => ⟨S2x4, .f32⟩
  | 66 => ⟨S2x4, .f32⟩
  | 67 => ⟨S2x4, .f32⟩
  | 68 => ⟨S2x4x1, .f32⟩
  | 69 => ⟨S2x4x1, .f32⟩
  | 70 => ⟨S2x4x1, .f32⟩
  | 71 => ⟨S2x4x1, .f32⟩
  | 72 => ⟨S2x4x4, .f32⟩
  | 73 => ⟨S2x4x2x2, .f32⟩
  | 74 => ⟨S2x4x2x2, .f32⟩
  | 75 => ⟨S2x1x2x2, .f32⟩
  | 76 => ⟨S2x2x2, .f32⟩
  | 77 => ⟨S2x1x2x2, .f32⟩
  | 78 => ⟨S2x2x2, .f32⟩
  | 79 => ⟨S2x1x2x2, .f32⟩
  | 80 => ⟨S2x2x2, .f32⟩
  | 81 => ⟨S2x1x2x2, .f32⟩
  | 82 => ⟨S2x2x2, .f32⟩
  | 83 => ⟨S2x1x2x2, .f32⟩
  | 84 => ⟨S2x2x2, .f32⟩
  | 85 => ⟨S2x1x2x2, .f32⟩
  | 86 => ⟨S2x2x2, .f32⟩
  | 87 => ⟨S2x1x2x2, .f32⟩
  | 88 => ⟨S2x2x2, .f32⟩
  | 89 => ⟨S2x1x2x2, .f32⟩
  | 90 => ⟨S2x2x2, .f32⟩
  | 91 => ⟨S2x2x1x2x1, .f32⟩
  | 92 => ⟨S2x2x1x2x1, .f32⟩
  | 93 => ⟨S2x1x2x1x2, .f32⟩
  | 94 => ⟨S2x1x2x1x2, .f32⟩
  | 95 => ⟨S2x2x2x2x2, .f32⟩
  | 96 => ⟨S2x2x2x2x2, .f32⟩
  | 97 => ⟨S2x2x2x2x2, .f32⟩
  | 98 => ⟨S2x2x2x2x2, .f32⟩
  | 99 => ⟨S2x2x2x2x2, .f32⟩
  | 100 => ⟨S2x2x2x2x2, .f32⟩
  | 101 => ⟨S2x2x2x2x2, .f32⟩
  | 102 => ⟨S2x2x2x2x2, .f32⟩
  | 103 => ⟨S2x2x2x2x2, .f32⟩
  | 104 => ⟨S2x2x2x2x2, .f32⟩
  | 105 => ⟨S2x2x2x2x2, .f32⟩
  | 106 => ⟨S2x2x2x2x2, .f32⟩
  | 107 => ⟨S2x2x2x2x2, .f32⟩
  | 108 => ⟨S2x2x2x2x2, .f32⟩
  | 109 => ⟨S2x4x4, .f32⟩
  | 110 => ⟨S2x4x4, .f32⟩
  | 111 => ⟨S2x4x1x4x1, .f32⟩
  | 112 => ⟨S2x4x1x4x1, .f32⟩
  | 113 => ⟨S2x1x2x1x2, .f32⟩
  | 114 => ⟨S2x1x2x1x2, .f32⟩
  | 115 => ⟨S2x4x2x4x2, .f32⟩
  | 116 => ⟨S2x4x2x4x2, .f32⟩
  | 117 => ⟨S2x4x2x4x2, .f32⟩
  | 118 => ⟨S2x4x2x4x2, .f32⟩
  | 119 => ⟨S2x4x2x4x2, .f32⟩
  | 120 => ⟨S2x4x2x4x2, .f32⟩
  | 121 => ⟨S2x4x2x4x2, .f32⟩
  | 122 => ⟨S2x4x2x4x2, .f32⟩
  | 123 => ⟨S2x4x2x4x2, .f32⟩
  | 124 => ⟨S2x4x2x4x2, .f32⟩
  | 125 => ⟨S2x4x2x4x2, .f32⟩
  | 126 => ⟨S2x4x2x4x2, .f32⟩
  | 127 => ⟨S2x4x2x4x2, .f32⟩
  | _ => ⟨S4x2048x1024, .f32⟩

abbrev hbmTy0_2 (i : Nat) : BufTy := match i % 128 with
  | 0 => ⟨S2x4x2x4x2, .f32⟩
  | 1 => ⟨S2x8x8, .f32⟩
  | 2 => ⟨S2x8x8, .f32⟩
  | 3 => ⟨S2x8x1x8x1, .f32⟩
  | 4 => ⟨S2x8x1x8x1, .f32⟩
  | 5 => ⟨S2x1x2x1x2, .f32⟩
  | 6 => ⟨S2x1x2x1x2, .f32⟩
  | 7 => ⟨S2x8x2x8x2, .f32⟩
  | 8 => ⟨S2x8x2x8x2, .f32⟩
  | 9 => ⟨S2x8x2x8x2, .f32⟩
  | 10 => ⟨S2x8x2x8x2, .f32⟩
  | 11 => ⟨S2x8x2x8x2, .f32⟩
  | 12 => ⟨S2x8x2x8x2, .f32⟩
  | 13 => ⟨S2x8x2x8x2, .f32⟩
  | 14 => ⟨S2x8x2x8x2, .f32⟩
  | 15 => ⟨S2x8x2x8x2, .f32⟩
  | 16 => ⟨S2x8x2x8x2, .f32⟩
  | 17 => ⟨S2x8x2x8x2, .f32⟩
  | 18 => ⟨S2x8x2x8x2, .f32⟩
  | 19 => ⟨S2x8x2x8x2, .f32⟩
  | 20 => ⟨S2x8x2x8x2, .f32⟩
  | 21 => ⟨S2x16x16, .f32⟩
  | 22 => ⟨S2x16x16, .f32⟩
  | 23 => ⟨S1x16x16, .f32⟩
  | 24 => ⟨S16x16, .f32⟩
  | 25 => ⟨S1x16x16, .f32⟩
  | 26 => ⟨S16x16, .f32⟩
  | 27 => ⟨S8192x16, .f32⟩
  | 28 => ⟨S8192x16, .f32⟩
  | 29 => ⟨S8192x16, .f32⟩
  | 30 => ⟨S8192x16, .f32⟩
  | 31 => ⟨S8192x16, .f32⟩
  | 32 => ⟨S8192x16, .f32⟩
  | 33 => ⟨S8192x16, .f32⟩
  | 34 => ⟨S8192x16, .f32⟩
  | 35 => ⟨S1x16x16, .f32⟩
  | 36 => ⟨S16x16, .f32⟩
  | 37 => ⟨S1x16x16, .f32⟩
  | 38 => ⟨S16x16, .f32⟩
  | 39 => ⟨S8192x16, .f32⟩
  | 40 => ⟨S8192x16, .f32⟩
  | 41 => ⟨S8192x16, .f32⟩
  | 42 => ⟨S8192x16, .f32⟩
  | 43 => ⟨S8192x16, .f32⟩
  | 44 => ⟨S8192x16, .f32⟩
  | 45 => ⟨S8192x16, .f32⟩
  | 46 => ⟨S8192x16, .f32⟩
  | 47 => ⟨S8192x16, .f32⟩
  | 48 => ⟨S8192x16, .f32⟩
  | 49 => ⟨S8192x16, .f32⟩
  | 50 => ⟨S8192x4, .f32⟩
  | 51 => ⟨S8192x1024, .f32⟩
  | 52 => ⟨S1x1024, .f32⟩
  | 53 => ⟨S8192x1024, .f32⟩
  | 54 => ⟨S8192x1024, .f32⟩
  | 55 => ⟨S4x2048x1024, .f32⟩
  | 56 => ⟨S_, .f32⟩
  | 57 => ⟨S4x2048x1024, .f32⟩
  | 58 => ⟨S4x2048x1024, .f32⟩
  | 59 => ⟨S4x2048x1024, .f32⟩
  | 60 => ⟨S_, .f32⟩
  | 61 => ⟨S4, .f32⟩
  | 62 => ⟨S4, .i1⟩
  | 63 => ⟨S4x1x1, .i1⟩
  | 64 => ⟨S4x2048x1024, .i1⟩
  | 65 => ⟨S4x2048x1024, .f32⟩
  | 66 => ⟨S_, .f32⟩
  | 67 => ⟨S4x2048, .f32⟩
  | 68 => ⟨S4x2048x1, .f32⟩
  | 69 => ⟨S_, .f32⟩
  | 70 => ⟨S4x2048x1, .f32⟩
  | 71 => ⟨S4x2048x1, .f32⟩
  | 72 => ⟨S_, .i32⟩
  | 73 => ⟨S_, .f32⟩
  | 74 => ⟨S4x2048, .f32⟩
  | 75 => ⟨S4x2048x1, .f32⟩
  | 76 => ⟨S_, .f32⟩
  | 77 => ⟨S4x2048x1, .f32⟩
  | 78 => ⟨S4x2048x1, .f32⟩
  | 79 => ⟨S4x2048x1024, .f32⟩
  | 80 => ⟨S4x2048x1024, .f32⟩
  | 81 => ⟨S4x2048x1024, .f32⟩
  | 82 => ⟨S_, .f32⟩
  | 83 => ⟨S_, .f32⟩
  | 84 => ⟨S_, .f32⟩
  | 85 => ⟨S_, .f32⟩
  | 86 => ⟨S4x2048, .f32⟩
  | 87 => ⟨S4x2048x1, .f32⟩
  | 88 => ⟨S4x2048x1, .f32⟩
  | 89 => ⟨S4x2048x1, .f32⟩
  | 90 => ⟨S_, .f32⟩
  | 91 => ⟨S_, .i1⟩
  | 92 => ⟨S_, .f32⟩
  | 93 => ⟨S_, .f32⟩
  | 94 => ⟨S4x2048x1, .f32⟩
  | 95 => ⟨S4x2048x1, .f32⟩
  | 96 => ⟨S4x2048x1024, .f32⟩
  | 97 => ⟨S4x2048x1024, .f32⟩
  | 98 => ⟨S_, .f32⟩
  | 99 => ⟨S4x2048x1, .f32⟩
  | 100 => ⟨S4x2048x1, .f32⟩
  | 101 => ⟨S4x2048x1, .f32⟩
  | 102 => ⟨S4x2048x1024, .f32⟩
  | 103 => ⟨S4x2048x1024, .f32⟩
  | 104 => ⟨S1x1x1024, .f32⟩
  | 105 => ⟨S4x2048x1024, .f32⟩
  | 106 => ⟨S4x2048x1024, .f32⟩
  | 107 => ⟨S1x1x1024, .f32⟩
  | 108 => ⟨S4x2048x1024, .f32⟩
  | 109 => ⟨S4x2048x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_cst_1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_3 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_v27 : Ref sig .tc := ⟨.hbm, 55, rfl⟩
abbrev main_cst_8 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_10 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_11 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_12 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_13 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_14 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_15 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_cst_16 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_call1_v0 : Ref sig .tc := ⟨.hbm, 320, rfl⟩
abbrev main_v283 : Ref sig .tc := ⟨.hbm, 321, rfl⟩
abbrev main_cst_17 : Ref sig .tc := ⟨.hbm, 322, rfl⟩
abbrev main_v284 : Ref sig .tc := ⟨.hbm, 323, rfl⟩
abbrev main_v285 : Ref sig .tc := ⟨.hbm, 324, rfl⟩
abbrev main_cst_18 : Ref sig .tc := ⟨.hbm, 325, rfl⟩
abbrev main_v286 : Ref sig .tc := ⟨.hbm, 326, rfl⟩
abbrev main_v287 : Ref sig .tc := ⟨.hbm, 327, rfl⟩
abbrev main_c : Ref sig .tc := ⟨.hbm, 328, rfl⟩
abbrev main_call2_cst : Ref sig .tc := ⟨.hbm, 329, rfl⟩
abbrev main_call2_v0 : Ref sig .tc := ⟨.hbm, 330, rfl⟩
abbrev main_call2_v1 : Ref sig .tc := ⟨.hbm, 331, rfl⟩
abbrev main_call2_cst_0 : Ref sig .tc := ⟨.hbm, 332, rfl⟩
abbrev main_call2_v2 : Ref sig .tc := ⟨.hbm, 333, rfl⟩
abbrev main_call2_v3 : Ref sig .tc := ⟨.hbm, 334, rfl⟩
abbrev main_call2_v4 : Ref sig .tc := ⟨.hbm, 335, rfl⟩
abbrev main_call2_v5 : Ref sig .tc := ⟨.hbm, 336, rfl⟩
abbrev main_call2_v6 : Ref sig .tc := ⟨.hbm, 337, rfl⟩
abbrev main_call2_v7 : Ref sig .tc := ⟨.hbm, 338, rfl⟩
abbrev main_call2_cst_1 : Ref sig .tc := ⟨.hbm, 339, rfl⟩
abbrev main_call2_v8 : Ref sig .tc := ⟨.hbm, 340, rfl⟩
abbrev main_call2_cst_2 : Ref sig .tc := ⟨.hbm, 341, rfl⟩
abbrev main_call2_v9 : Ref sig .tc := ⟨.hbm, 342, rfl⟩
abbrev main_call2_v10 : Ref sig .tc := ⟨.hbm, 343, rfl⟩
abbrev main_call2_v11 : Ref sig .tc := ⟨.hbm, 344, rfl⟩
abbrev main_call2_v12 : Ref sig .tc := ⟨.hbm, 345, rfl⟩
abbrev main_call2_cst_3 : Ref sig .tc := ⟨.hbm, 346, rfl⟩
abbrev main_call2_v13 : Ref sig .tc := ⟨.hbm, 347, rfl⟩
abbrev main_call2_cst_4 : Ref sig .tc := ⟨.hbm, 348, rfl⟩
abbrev main_call2_call0_v0 : Ref sig .tc := ⟨.hbm, 349, rfl⟩
abbrev main_call2_call0_v1 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_cst_19 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩

abbrev nD : Nat := 1
abbrev τ : Topo := Topo.v7x

variable {F : FTy → Type} [FloatOps F]
-- ==== Proof.IdealKit.lean ====
/- Launch set-up of the program `KernelIdeal`: the contents of its buffers when the pipeline is entered, the
   mask table read off the launch memory, the block of every window at a grid point, and the reading of the
   argument arrays off the final state. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What each buffer holds when the pipeline is entered: the launch memory after the host's lines. -/
abbrev V (c : Dev nD) (b : Ref sig .tc) : Buf (Elt F) ((c : Thread nD τ).loc b) :=
  StableHlo.after (List.flatten [hostOps0, hostOps0_1]) (fun b => m (c, b)) b

theorem host_fresh : (hostOps0 : List (HloOp τ sig (Elt F))).Forall fun op => op.fresh = ∅ := by
  simp only [List.Forall]; repeat' constructor

theorem host_fresh' : (hostOps0_1 : List (HloOp τ sig (Elt F))).Forall fun op => op.fresh = ∅ := by
  simp only [List.Forall]; repeat' constructor

set_option maxHeartbeats 800000 in
/-- The program up to its pipeline: the two stretches of host lines, then the pipeline. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨host_fresh, host_fresh'⟩) main_chain

/-- The argument arrays. -/
def argRefs : List (Ref sig .tc) := [main_arg0, main_arg1, main_arg2, main_arg3, main_arg4, main_arg5, main_arg6, main_arg7,
  main_arg8, main_arg9, main_arg10, main_arg11, main_arg12, main_arg13]

theorem ne_of_arg {b b' : Ref sig .tc} (hb : b ∈ argRefs) (h : b' ∉ argRefs) : b ≠ b' := fun e => h (e ▸ hb)

set_option maxHeartbeats 4000000 in
/-- No host line writes an argument array. -/
theorem host_keeps {b : Ref sig .tc} (hb : b ∈ argRefs) :
    ∀ op ∈ (List.flatten [hostOps0, hostOps0_1] : List (HloOp τ sig (Elt F))), Proc.devRef .tc b ∉ op.writes := by
  rw [← List.forall_iff_forall_mem]
  simp only [hostOps0, hostOps0_1, List.flatten_cons, List.flatten_nil, List.append_nil, List.cons_append, List.nil_append,
    List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (ne_of_arg hb (by decide))

/-- An argument array is found as launched. -/
theorem V_kept (c : Dev nD) (b : Ref sig .tc) (hb : b ∈ argRefs) : V m c b = m ((c : Thread nD τ).loc b) :=
  StableHlo.after_of_forall_not_mem (b := Proc.devRef .tc b) _ _ (host_keeps hb)

/-- The mask table when the pipeline is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No index map reads the table, so that its contents are always admissible. -/
theorem ok : ok0 (F := F) (tbl m) := by unfold ok0; trivial

abbrev adm : (pcfg0 (F := F)).Adm := ⟨tbl m, ok m⟩
abbrev cfgM : Pipeline.Cfg sig Λ₀ := cfg0 (adm m)

/-- The mask table as the body is handed it. -/
abbrev tbM : Memref sig .tc .smem S4 .i32 := Memref.whole main_v2
abbrev htbM : tbM.IsWhole := Memref.isWhole_whole _
abbrev TbBuf (c : Dev nD) {S : Shape} {e : EltTy} (M : Memref sig .tc .smem S e) : Type := Buf (Elt F) (M.view.loc (c : Thread nD τ))
/-- Half of the table, which is what the body holds of it. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Window `w`'s block at point `t`, of its array as the pipeline finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The scratch buffers the body carries from point to point: the circuit's matrix (two parts) and the folded
    up-projection. -/
abbrev scA : Memref sig .tc .vmem S16x16 .f32 := Memref.whole cc0_scratch0
abbrev scB : Memref sig .tc .vmem S16x16 .f32 := Memref.whole cc0_scratch1
abbrev scW : Memref sig .tc .vmem S16x1024 .f32 := Memref.whole cc0_scratch2

theorem PhiA_eq (c : Dev nD) :
    (Pipeline.ΦA spec0 c : sProp 𝕄)
      = iprop(iprop((∃ d, owns (c : Thread nD τ) scA fullShare d) ∗ (∃ d, owns (c : Thread nD τ) scB fullShare d) ∗ (∃ d, owns (c : Thread nD τ) scW fullShare d)) ∗ (∃ r, prngReg c r)) := by
  unfold Pipeline.ΦA; rw [scopedRest0_eq]; simp only [scA, scB, scW, owns_whole]; try rfl

/-- The staging memref of each window at point `t`, and the body as the pipeline calls it there. -/
abbrev st (w : Fin 19) (t : Fin (cfgM m).N) := ((cfgM m).win w).stage ((cfgM m).slots t w)

theorem rest_args {b : Ref sig .tc} (hb : b ∈ argRefs) : b = main_arg0 ∨ b ∈ Pipeline.restRefs sig spec0 := by
  revert b; decide

/-- Every argument array ends as launched, off a run that leaves every array as the pipeline's data say. -/
theorem args_kept (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w)) {r : PUnit × MemSt nD τ sig (Elt F)}
    (h : Pipeline.FramePost (Pipeline.pin pcfgs fun _ => adm m) dats 0 (V m) r) (c : Dev nD) {b : Ref sig .tc} (hb : b ∈ argRefs) :
    r.2.mem ((c.tc : Thread nD τ).loc b) = m ((c.tc : Thread nD τ).loc b) := by
  rcases rest_args hb with rfl | h'
  · exact ((h c).1 0).trans (((dats 0 c).arrAt_in 0 rfl _).trans ((hA c 0).trans (V_kept m c main_arg0 hb)))
  · exact ((h c).2 b h').trans (V_kept m c b hb)

end Cert.KernelIdeal.Hand

end
-- ==== Proof.IdealBody.lean ====
/- The kernel body of `KernelIdeal`: what one grid point leaves in the output block and in the scratch, as
   functions of the blocks it reads, and the triple that says so. -/
module

public import proofs.«01_k».proof.Proof.IdealKit
public import Idealize.ShloMosaic.Lib.Pipeline.ReadBack
public import Idealize.ShloMosaic.Lib.Pipeline.ValueKit
public import Idealize.ShloMosaic.Lib.WholeRead
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The test "this is the first grid point", as the body computes it. -/
abbrev atFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The mask word of the batch item that a grid point works on. -/
abbrev word (i : grid0.Coords) (x : (⟨S4, .i32⟩ : BufTy).Contents (Elt F)) : BitVec 32 :=
  tbM.view.readAt (Elt F) (Rect.unit (s := S4) (k0_off1 i) S1.size (k0_off1_inb i)).toLoadRect x (Shape.Idx.first (numel1_S1.symm ▸ Nat.one_pos))

/-- A memref over the whole of its buffer, owned at a value, is its buffer holding the contents that read so. -/
theorem owns_held {s : Shape} {e : EltTy} {c : Dev nD} {m : Memref sig .tc .vmem s e} (h : m.IsWhole) {x : Vec F s e} :
    (owns (c : Thread nD τ) m fullShare x : sProp 𝕄) = iprop(m.view.loc (c : Thread nD τ) ↦[m.view.set]{fullShare} h.unread x) := by
  have h₁ : (owns (c : Thread nD τ) m fullShare x : sProp 𝕄) ⊢ iprop(m.view.loc (c : Thread nD τ) ↦[m.view.set]{fullShare} h.unread x) := by
    unfold owns
    iintro ⟨%f, %hf, H⟩
    obtain rfl := h.eq_unread hf
    iexact H
  have h₂ : iprop(m.view.loc (c : Thread nD τ) ↦[m.view.set]{fullShare} h.unread x) ⊢ (owns (c : Thread nD τ) m fullShare x : sProp 𝕄) := by
    unfold owns
    iintro H
    iexists _; isplitr
    swap; · iexact H
    ipureintro; exact h.read_unread _
  exact BI.equiv_iff.mp ⟨h₁, h₂⟩

/-- A memref's buffer holds contents that read as `x`: `owns`, spelled out. -/
abbrev leaves {s : Shape} {e : EltTy} (c : Dev nD) (m : Memref sig .tc .vmem s e) (x : Vec F s e) : sProp 𝕄 :=
  iprop(∃ f, ⌜m.view.read (Elt F) f = x⌝ ∗ (m.view.loc (c : Thread nD τ) ↦[m.view.set]{fullShare} f))

/-- A load of a whole scratch matrix after a store of the whole of it reads what was stored: of the circuit's matrix, -/
theorem cov_sq (v : View sig .tc .vmem S16x16 .f32) (h h' : ∀ a, ![0, 0] a + ![16, 16] a ≤ S16x16.size a)
    (w : (Rect.unit (s := S16x16) ![0, 0] ![16, 16] h).shape.Idx → Elt F .f32) :
    v.readCov [⟨Rect.unit (s := S16x16) ![0, 0] ![16, 16] h, w⟩] (Rect.unit (s := S16x16) ![0, 0] ![16, 16] h').toLoadRect = w :=
  View.readCov_full v h' h w []

/-- and of the folded up-projection. -/
theorem cov_up (v : View sig .tc .vmem S16x1024 .f32) (h h' : ∀ a, ![0, 0] a + ![16, 1024] a ≤ S16x1024.size a)
    (w : (Rect.unit (s := S16x1024) ![0, 0] ![16, 1024] h).shape.Idx → Elt F .f32) :
    v.readCov [⟨Rect.unit (s := S16x1024) ![0, 0] ![16, 1024] h, w⟩] (Rect.unit (s := S16x1024) ![0, 0] ![16, 1024] h').toLoadRect = w :=
  View.readCov_full v h' h w []

/-- Gate matrix `k` of the stack of eight, as a block of its own. -/
abbrev slab (x : Vec F S8x16x16 .f32) (k : ℕ) (h : ∀ a, ![k, 0, 0] a + S1x16x16.size a ≤ S8x16x16.size a) : Vec F S1x16x16 .f32 :=
  View.ld x (Rect.unit (s := S8x16x16) ![k, 0, 0] S1x16x16.size h)

/-- Row `k` of the table of phases. -/
abbrev phase (x : Vec F S2x16 .f32) (k : ℕ) (h : ∀ a, ![k, 0] a + S1x16.size a ≤ S2x16.size a) : Vec F S1x16 .f32 :=
  View.ld x (Rect.unit (s := S2x16) ![k, 0] S1x16.size h)

section circuit
variable (x7 x8 : Vec F S8x16x16 .f32) (x14 x15 : Vec F S16x16 .f32) (x16 : Vec F S2x16 .f32)

/-- The first layer's rotations, real and imaginary part, and the second layer's. -/
def lay0r : FVec F S16x16 .f32 := k0_pay17 (slab x7 0 inb_S8x16x16_S1x16x16_0_0_0) (slab x8 0 inb_S8x16x16_S1x16x16_0_0_0) (slab x7 1 inb_S8x16x16_S1x16x16_1_0_0) (slab x8 1 inb_S8x16x16_S1x16x16_1_0_0) (slab x7 2 inb_S8x16x16_S1x16x16_2_0_0) (slab x8 2 inb_S8x16x16_S1x16x16_2_0_0) (slab x7 3 inb_S8x16x16_S1x16x16_3_0_0) (slab x8 3 inb_S8x16x16_S1x16x16_3_0_0)
def lay0i : FVec F S16x16 .f32 := k0_pay18 (slab x7 0 inb_S8x16x16_S1x16x16_0_0_0) (slab x8 0 inb_S8x16x16_S1x16x16_0_0_0) (slab x7 1 inb_S8x16x16_S1x16x16_1_0_0) (slab x8 1 inb_S8x16x16_S1x16x16_1_0_0) (slab x7 2 inb_S8x16x16_S1x16x16_2_0_0) (slab x8 2 inb_S8x16x16_S1x16x16_2_0_0) (slab x7 3 inb_S8x16x16_S1x16x16_3_0_0) (slab x8 3 inb_S8x16x16_S1x16x16_3_0_0)
def lay1r : FVec F S16x16 .f32 := k0_pay31 (slab x7 4 inb_S8x16x16_S1x16x16_4_0_0) (slab x8 4 inb_S8x16x16_S1x16x16_4_0_0) (slab x7 5 inb_S8x16x16_S1x16x16_5_0_0) (slab x8 5 inb_S8x16x16_S1x16x16_5_0_0) (slab x7 6 inb_S8x16x16_S1x16x16_6_0_0) (slab x8 6 inb_S8x16x16_S1x16x16_6_0_0) (slab x7 7 inb_S8x16x16_S1x16x16_7_0_0) (slab x8 7 inb_S8x16x16_S1x16x16_7_0_0)
def lay1i : FVec F S16x16 .f32 := k0_pay32 (slab x7 4 inb_S8x16x16_S1x16x16_4_0_0) (slab x8 4 inb_S8x16x16_S1x16x16_4_0_0) (slab x7 5 inb_S8x16x16_S1x16x16_5_0_0) (slab x8 5 inb_S8x16x16_S1x16x16_5_0_0) (slab x7 6 inb_S8x16x16_S1x16x16_6_0_0) (slab x8 6 inb_S8x16x16_S1x16x16_6_0_0) (slab x7 7 inb_S8x16x16_S1x16x16_7_0_0) (slab x8 7 inb_S8x16x16_S1x16x16_7_0_0)

/-- The circuit's matrix that the first grid point builds: its real part, -/
def circA : FVec F S16x16 .f32 := k0_pay37 (lay0r x7 x8) (lay0i x7 x8) (lay1r x7 x8) (lay1i x7 x8) x14 x15 (phase x16 0 inb_S2x16_S1x16_0_0) (phase x16 1 inb_S2x16_S1x16_1_0)
/-- and its imaginary part. -/
def circB : FVec F S16x16 .f32 := k0_pay38 (lay0r x7 x8) (lay0i x7 x8) (lay1r x7 x8) (lay1i x7 x8) x14 x15 (phase x16 0 inb_S2x16_S1x16_0_0) (phase x16 1 inb_S2x16_S1x16_1_0)
end circuit

/-- The folded up-projection that the first grid point builds. -/
def upW (x9 : Vec F S8x1024 .f32) (x10 : Vec F S1x1024 .f32) (x11 : Vec F S1x1 .f32) (x17 : Vec F S16x8 .f32) : FVec F S16x1024 .f32 :=
  k0_pay1 (k0_pay39 x17 x9) x10 x11

/-- The output block of a point on the classical branch. -/
def outC (x0 : Vec F S1x512x1024 .f32) (x1 : Vec F S1024x4096 .bf16) (x2 : Vec F S1x4096 .f32) (x3 : Vec F S4096x1024 .bf16) (x4 x12 x13 : Vec F S1x1024 .f32) : FVec F S1x512x1024 .f32 :=
  k0_pay3 (k0_pay40 (k0_pay2 x0) x1 x2 x3 x4) (k0_pay41 (k0_pay2 x0) x1 x2 x3 x4) x12 x13

/-- The output block of a point on the quantum branch. -/
def outQ (x0 : Vec F S1x512x1024 .f32) (x5 : Vec F S1024x4 .bf16) (x6 : Vec F S1x4 .f32) (a b : Vec F S16x16 .f32) (w : Vec F S16x1024 .f32) (x12 x13 : Vec F S1x1024 .f32) : FVec F S1x512x1024 .f32 :=
  k0_pay4 (k0_pay63 (k0_pay2 x0) (k0_pay46 (k0_pay2 x0) x5 x6) (k0_pay47 (k0_pay2 x0) x5 x6) (k0_pay48 (k0_pay2 x0) x5 x6) (k0_pay49 (k0_pay2 x0) x5 x6) (k0_pay50 (k0_pay2 x0) x5 x6) (k0_pay51 (k0_pay2 x0) x5 x6) (k0_pay52 (k0_pay2 x0) x5 x6) (k0_pay53 (k0_pay2 x0) x5 x6) (k0_pay54 (k0_pay2 x0) x5 x6) (k0_pay55 (k0_pay2 x0) x5 x6) (k0_pay56 (k0_pay2 x0) x5 x6) (k0_pay57 (k0_pay2 x0) x5 x6) (k0_pay58 (k0_pay2 x0) x5 x6) (k0_pay59 (k0_pay2 x0) x5 x6) (k0_pay60 (k0_pay2 x0) x5 x6) (k0_pay61 (k0_pay2 x0) x5 x6) (k0_pay62 (k0_pay2 x0) x5 x6) a b w) (k0_pay64 (k0_pay2 x0) (k0_pay46 (k0_pay2 x0) x5 x6) (k0_pay47 (k0_pay2 x0) x5 x6) (k0_pay48 (k0_pay2 x0) x5 x6) (k0_pay49 (k0_pay2 x0) x5 x6) (k0_pay50 (k0_pay2 x0) x5 x6) (k0_pay51 (k0_pay2 x0) x5 x6) (k0_pay52 (k0_pay2 x0) x5 x6) (k0_pay53 (k0_pay2 x0) x5 x6) (k0_pay54 (k0_pay2 x0) x5 x6) (k0_pay55 (k0_pay2 x0) x5 x6) (k0_pay56 (k0_pay2 x0) x5 x6) (k0_pay57 (k0_pay2 x0) x5 x6) (k0_pay58 (k0_pay2 x0) x5 x6) (k0_pay59 (k0_pay2 x0) x5 x6) (k0_pay60 (k0_pay2 x0) x5 x6) (k0_pay61 (k0_pay2 x0) x5 x6) (k0_pay62 (k0_pay2 x0) x5 x6) a b w) x12 x13

set_option maxHeartbeats 8000000 in
/-- One run of the body, from the blocks, half of the mask table and the scratch: the blocks and the table are left
    as they were, the scratch is built at the first point and kept at every other, the output block is the branch's
    that the mask word selects. -/
theorem body_run (c : Dev nD) (i : grid0.Coords) (arg3 : Memref sig .tc .vmem S1x512x1024 .f32) (harg3 : arg3.IsWhole) (arg4 : Memref sig .tc .vmem S1024x4096 .bf16) (harg4 : arg4.IsWhole) (arg5 : Memref sig .tc .vmem S1x4096 .f32) (harg5 : arg5.IsWhole) (arg6 : Memref sig .tc .vmem S4096x1024 .bf16) (harg6 : arg6.IsWhole) (arg7 : Memref sig .tc .vmem S1x1024 .f32) (harg7 : arg7.IsWhole) (arg8 : Memref sig .tc .vmem S1024x4 .bf16) (harg8 : arg8.IsWhole) (arg9 : Memref sig .tc .vmem S1x4 .f32) (harg9 : arg9.IsWhole) (arg10 : Memref sig .tc .vmem S8x16x16 .f32) (harg10 : arg10.IsWhole) (arg11 : Memref sig .tc .vmem S8x16x16 .f32) (harg11 : arg11.IsWhole) (arg12 : Memref sig .tc .vmem S8x1024 .f32) (harg12 : arg12.IsWhole) (arg13 : Memref sig .tc .vmem S1x1024 .f32) (harg13 : arg13.IsWhole) (arg14 : Memref sig .tc .vmem S1x1 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S16x16 .f32) (harg17 : arg17.IsWhole) (arg18 : Memref sig .tc .vmem S16x16 .f32) (harg18 : arg18.IsWhole) (arg19 : Memref sig .tc .vmem S2x16 .f32) (harg19 : arg19.IsWhole) (arg20 : Memref sig .tc .vmem S16x8 .f32) (harg20 : arg20.IsWhole) (arg21 : Memref sig .tc .vmem S1x512x1024 .f32) (harg21 : arg21.IsWhole) (arg22 : Memref sig .tc .vmem S16x16 .f32) (harg22 : arg22.IsWhole) (arg23 : Memref sig .tc .vmem S16x16 .f32) (harg23 : arg23.IsWhole) (arg24 : Memref sig .tc .vmem S16x1024 .f32) (harg24 : arg24.IsWhole)
    (x0 : Vec F S1x512x1024 .f32) (x1 : Vec F S1024x4096 .bf16) (x2 : Vec F S1x4096 .f32) (x3 : Vec F S4096x1024 .bf16) (x4 : Vec F S1x1024 .f32) (x5 : Vec F S1024x4 .bf16) (x6 : Vec F S1x4 .f32) (x7 : Vec F S8x16x16 .f32) (x8 : Vec F S8x16x16 .f32) (x9 : Vec F S8x1024 .f32) (x10 : Vec F S1x1024 .f32) (x11 : Vec F S1x1 .f32) (x12 : Vec F S1x1024 .f32) (x13 : Vec F S1x1024 .f32) (x14 : Vec F S16x16 .f32) (x15 : Vec F S16x16 .f32) (x16 : Vec F S2x16 .f32) (x17 : Vec F S16x8 .f32) (xt : TbBuf (F := F) c tbM) (s0 s1 : Vec F S16x16 .f32) (s2 : Vec F S16x1024 .f32)
    (r0 r1 : Vec F S16x16 .f32) (r2 : Vec F S16x1024 .f32) (o : Vec F S1x512x1024 .f32)
    (hr : (atFirst i ∧ r0 = circA x7 x8 x14 x15 x16 ∧ r1 = circB x7 x8 x14 x15 x16 ∧ r2 = upW x9 x10 x11 x17)
      ∨ (¬atFirst i ∧ r0 = s0 ∧ r1 = s1 ∧ r2 = s2))
    (ho : (k0_cond2 (word (F := F) i xt) = 1#1 ∧ ¬k0_cond3 (word (F := F) i xt) = 1#1 ∧ o = outC x0 x1 x2 x3 x4 x12 x13)
      ∨ (¬k0_cond2 (word (F := F) i xt) = 1#1 ∧ k0_cond3 (word (F := F) i xt) = 1#1 ∧ o = outQ x0 x5 x6 r0 r1 r2 x12 x13))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ (∃ d, owns (c : Thread nD τ) arg21 fullShare d) ∗ owns (c : Thread nD τ) arg22 fullShare s0 ∗ owns (c : Thread nD τ) arg23 fullShare s1 ∗ owns (c : Thread nD τ) arg24 fullShare s2 ∗ tbPt c tbM xt
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ leaves c arg21 o ∗ leaves c arg22 r0 ∗ leaves c arg23 r1 ∗ leaves c arg24 r2 ∗ tbPt c tbM xt) -∗ K ⟨⟩))
      ⊢ wp frame (wpE (defs₀ (F := F)) Variants.none c none) E (cc0__kernel_body i tbM htbM arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  rcases hr with ⟨hc0, rfl, rfl, rfl⟩ | ⟨hc0, rfl, rfl, rfl⟩ <;> rcases ho with ⟨hc1, hc2, rfl⟩ | ⟨hc1, hc2, rfl⟩
  all_goals
    simp only [owns_held harg3, owns_held harg4, owns_held harg5, owns_held harg6, owns_held harg7, owns_held harg8, owns_held harg9, owns_held harg10, owns_held harg11, owns_held harg12, owns_held harg13, owns_held harg14, owns_held harg15, owns_held harg16, owns_held harg17, owns_held harg18, owns_held harg19, owns_held harg20, owns_held harg22, owns_held harg23, owns_held harg24]
    simp only [cc0__kernel_body_eq_skeleton]; unfold cc0__kernel_body_skel
    simp only [k0_part6_eq_skeleton, k0_part5_eq_skeleton, k0_part1_eq_skeleton, k0_part2_eq_skeleton, k0_part3_eq_skeleton, k0_part4_eq_skeleton]
    unfold owns
    iintro ⟨H0, H1, H2, H3, H4, H5, H6, H7, H8, H9, H10, H11, H12, H13, H14, H15, H16, H17, ⟨%d18, %f18, -, H18⟩, HS0, HS1, HS2, HT0, Hk⟩
    sl_exec (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · iexists _; isplitr
      swap; · iexact H18
      ipureintro
      (sl_unfold_run_names; (try refine (View.read_writes_full _ _ _ _ []).trans ?_); simp (disch := decide) only [cov_sq, cov_up, View.readAt_eq_ld, Memref.IsWhole.read_unread, View.ld_unit_lit', outC, outQ, circA, circB, upW, lay0r, lay0i, lay1r, lay1i, slab, phase])
    isplitl [HS0]
    · iexists _; isplitr
      swap; · iexact HS0
      ipureintro
      (sl_unfold_run_names; (try refine (View.read_writes_full _ _ _ _ []).trans ?_); simp (disch := decide) only [cov_sq, cov_up, View.readAt_eq_ld, Memref.IsWhole.read_unread, View.ld_unit_lit', outC, outQ, circA, circB, upW, lay0r, lay0i, lay1r, lay1i, slab, phase])
    isplitl [HS1]
    · iexists _; isplitr
      swap; · iexact HS1
      ipureintro
      (sl_unfold_run_names; (try refine (View.read_writes_full _ _ _ _ []).trans ?_); simp (disch := decide) only [cov_sq, cov_up, View.readAt_eq_ld, Memref.IsWhole.read_unread, View.ld_unit_lit', outC, outQ, circA, circB, upW, lay0r, lay0i, lay1r, lay1i, slab, phase])
    isplitl [HS2]
    · iexists _; isplitr
      swap; · iexact HS2
      ipureintro
      (sl_unfold_run_names; (try refine (View.read_writes_full _ _ _ _ []).trans ?_); simp (disch := decide) only [cov_sq, cov_up, View.readAt_eq_ld, Memref.IsWhole.read_unread, View.ld_unit_lit', outC, outQ, circA, circB, upW, lay0r, lay0i, lay1r, lay1i, slab, phase])
    iexact HT0

end Cert.KernelIdeal.Hand

end
-- ==== Proof.IdealFrame.lean ====
/- The run of `KernelIdeal`: its blocks point by point, the invariant over the scratch, the launch, and the frame. -/
module

public import proofs.«01_k».proof.Proof.IdealBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin (cfgM m).N := ⟨0, by rw [show (cfgM m).N = 16 from N_0]; omega⟩

theorem atFirst_iff : ∀ t : Fin grid0.N, atFirst (grid0.coords t) ↔ t.val = 0 := fun t => by
  have ht : t.val < 16 := Nat.lt_of_lt_of_eq t.isLt N_0
  have e0 : (grid0.coords t 0).val = t.val / 4 % 4 := Pipeline.Grid.coords_val t 0 (by decide) rfl
  have e1 : (grid0.coords t 1).val = t.val / 1 % 4 := Pipeline.Grid.coords_val t 1 (by decide) rfl
  have h : atFirst (grid0.coords t) ↔ t.val % 16 = 0 := by
    simp only [atFirst, e0, e1]
    word_cmp
  rw [h, Nat.mod_eq_of_lt ht]

/-- The two branch tests on a mask word exclude each other, and one of them holds. -/
theorem cond_cases (v : BitVec 32) : (k0_cond2 v = 1#1 ∧ ¬k0_cond3 v = 1#1) ∨ (¬k0_cond2 v = 1#1 ∧ k0_cond3 v = 1#1) := by
  by_cases h : v = 0#32
  · left; subst h; decide
  · right; have e : (v == 0#32) = false := by simpa using h
    have e' : (v != 0#32) = true := by simpa using h
    simp [k0_cond2, k0_cond3, Scalar.cmpi, Scalar.extui, IntOp.cmpi, h, e, e']

/-- What the first point builds in the scratch. -/
def scrA (c : Dev nD) : Vec F S16x16 .f32 := circA (iblk m c 7 (t0 m)) (iblk m c 8 (t0 m)) (iblk m c 14 (t0 m)) (iblk m c 15 (t0 m)) (iblk m c 16 (t0 m))
def scrB (c : Dev nD) : Vec F S16x16 .f32 := circB (iblk m c 7 (t0 m)) (iblk m c 8 (t0 m)) (iblk m c 14 (t0 m)) (iblk m c 15 (t0 m)) (iblk m c 16 (t0 m))
def scrW (c : Dev nD) : Vec F S16x1024 .f32 := upW (iblk m c 9 (t0 m)) (iblk m c 10 (t0 m)) (iblk m c 11 (t0 m)) (iblk m c 17 (t0 m))

/-- The mask word that point `t` branches on. -/
abbrev wordAt (t : Fin (cfgM m).N) : BitVec 32 := word (F := F) (grid0.coords t) (tbl m 0)

open scoped Classical in
/-- The output block of point `t`. -/
def outAt (c : Dev nD) (t : Fin (cfgM m).N) : Vec F S1x512x1024 .f32 :=
  if k0_cond2 (wordAt m t) = 1#1 then outC (iblk m c 0 t) (iblk m c 1 t) (iblk m c 2 t) (iblk m c 3 t) (iblk m c 4 t) (iblk m c 12 t) (iblk m c 13 t)
  else outQ (iblk m c 0 t) (iblk m c 5 t) (iblk m c 6 t) (scrA m c) (scrB m c) (scrW m c) (iblk m c 12 t) (iblk m c 13 t)

/-- The invariant before point `n`: before the first, the scratch at anything; after it, at what the first point built. -/
def PhiS (c : Dev nD) : ℕ → sProp 𝕄
  | 0 => iprop(Pipeline.ΦA spec0 c ∗ Pipeline.ΦT pre0 (tbl m) c)
  | _ + 1 => iprop(iprop(iprop(owns (c : Thread nD τ) scA fullShare (scrA m c) ∗ owns (c : Thread nD τ) scB fullShare (scrB m c) ∗ owns (c : Thread nD τ) scW fullShare (scrW m c)) ∗ (∃ r, prngReg c r)) ∗ Pipeline.ΦT pre0 (tbl m) c)

theorem PhiS_succ (c : Dev nD) (n : ℕ) : PhiS m c (n + 1) = iprop(iprop(iprop(owns (c : Thread nD τ) scA fullShare (scrA m c) ∗ owns (c : Thread nD τ) scB fullShare (scrB m c) ∗ owns (c : Thread nD τ) scW fullShare (scrW m c)) ∗ (∃ r, prngReg c r)) ∗ Pipeline.ΦT pre0 (tbl m) c) := rfl

theorem PhiS_pos (c : Dev nD) (n : ℕ) (h : n ≠ 0) : PhiS m c n = iprop(iprop(iprop(owns (c : Thread nD τ) scA fullShare (scrA m c) ∗ owns (c : Thread nD τ) scB fullShare (scrB m c) ∗ owns (c : Thread nD τ) scW fullShare (scrW m c)) ∗ (∃ r, prngReg c r)) ∗ Pipeline.ΦT pre0 (tbl m) c) := by
  cases n with
  | zero => exact absurd rfl h
  | succ n => rfl

/-- The pipeline's data: the arrays as found, each input block left in place, the output at `outAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => outAt m c t
    | ⟨_ + 19, h⟩ => absurd h (Nat.not_lt.2 (Nat.le_add_left _ _))
  Φ t := PhiS m c t.val
  q _ := fullShare
  owed _ := 0

theorem A_eq (c : Dev nD) (w : Fin (cfgM m).W) : (dats m 0 c).A w = V m c (Pipeline.arrRef spec0 w) := by
  dsimp only [dats]

theorem Phi_castSucc (c : Dev nD) (t : Fin (cfgM m).N) : (dats m 0 c).Φ t.castSucc = PhiS m c t.val := by
  dsimp only [dats]; rfl

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = iblk m c 6 t := by dsimp only [dats]; try rfl
theorem after7 (c : Dev nD) (t : Fin (cfgM m).N) : (dats m 0 c).after 7 t = iblk m c 7 t := by dsimp only [dats]; try rfl
theorem after8 (c : Dev nD) (t : Fin (cfgM m).N) : (dats m 0 c).after 8 t = iblk m c 8 t := by dsimp only [dats]; try rfl
theorem after9 (c : Dev nD) (t : Fin (cfgM m).N) : (dats m 0 c).after 9 t = iblk m c 9 t := by dsimp only [dats]; try rfl
theorem after10 (c : Dev nD) (t : Fin (cfgM m).N) : (dats m 0 c).after 10 t = iblk m c 10 t := by dsimp only [dats]; try rfl
theorem after11 (c : Dev nD) (t : Fin (cfgM m).N) : (dats m 0 c).after 11 t = iblk m c 11 t := by dsimp only [dats]; try rfl
theorem after12 (c : Dev nD) (t : Fin (cfgM m).N) : (dats m 0 c).after 12 t = iblk m c 12 t := by dsimp only [dats]; try rfl
theorem after13 (c : Dev nD) (t : Fin (cfgM m).N) : (dats m 0 c).after 13 t = iblk m c 13 t := by dsimp only [dats]; try rfl
theorem after14 (c : Dev nD) (t : Fin (cfgM m).N) : (dats m 0 c).after 14 t = iblk m c 14 t := by dsimp only [dats]; try rfl
theorem after15 (c : Dev nD) (t : Fin (cfgM m).N) : (dats m 0 c).after 15 t = iblk m c 15 t := by dsimp only [dats]; try rfl
theorem after16 (c : Dev nD) (t : Fin (cfgM m).N) : (dats m 0 c).after 16 t = iblk m c 16 t := by dsimp only [dats]; try rfl
theorem after17 (c : Dev nD) (t : Fin (cfgM m).N) : (dats m 0 c).after 17 t = iblk m c 17 t := by dsimp only [dats]; try rfl
theorem after18 (c : Dev nD) (t : Fin (cfgM m).N) : (dats m 0 c).after 18 t = outAt m c t := by dsimp only [dats]; try rfl

theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgM m).N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin (cfgM m).N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin (cfgM m).N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin (cfgM m).N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin (cfgM m).N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin (cfgM m).N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin (cfgM m).N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin (cfgM m).N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin (cfgM m).N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin (cfgM m).N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin (cfgM m).N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem before16 (c : Dev nD) (t : Fin (cfgM m).N) (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem before17 (c : Dev nD) (t : Fin (cfgM m).N) (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)

/-- The body as the pipeline calls it at point `t`. -/
abbrev bodyAt (t : Fin (cfgM m).N) : Prog (TpuEff nD τ sig (Elt F) Λ₀ .tc) PUnit :=
  cc0__kernel_body (grid0.coords t) (Memref.whole main_v2) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (spec0_14.stage ((cfgM m).slots t 14)) (hstage0_14 (((cfgM m).slots t 14).cast nbuf0_14)) (spec0_15.stage ((cfgM m).slots t 15)) (hstage0_15 (((cfgM m).slots t 15).cast nbuf0_15)) (spec0_16.stage ((cfgM m).slots t 16)) (hstage0_16 (((cfgM m).slots t 16).cast nbuf0_16)) (spec0_17.stage ((cfgM m).slots t 17)) (hstage0_17 (((cfgM m).slots t 17).cast nbuf0_17)) (spec0_18.stage ((cfgM m).slots t 18)) (hstage0_18 (((cfgM m).slots t 18).cast nbuf0_18)) (Memref.whole cc0_scratch0) (Memref.isWhole_whole _) (Memref.whole cc0_scratch1) (Memref.isWhole_whole _) (Memref.whole cc0_scratch2) (Memref.isWhole_whole _)

/-- What the body is handed at point `t`, -/
def bodyPre (c : Dev nD) (t : Fin (cfgM m).N) : sProp 𝕄 :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d))
    ∗ (∃ d, owns (c : Thread nD τ) (st m 6 t) fullShare ((dats m 0 c).before 6 t d))
    ∗ (∃ d, owns (c : Thread nD τ) (st m 7 t) fullShare ((dats m 0 c).before 7 t d))
    ∗ (∃ d, owns (c : Thread nD τ) (st m 8 t) fullShare ((dats m 0 c).before 8 t d))
    ∗ (∃ d, owns (c : Thread nD τ) (st m 9 t) fullShare ((dats m 0 c).before 9 t d))
    ∗ (∃ d, owns (c : Thread nD τ) (st m 10 t) fullShare ((dats m 0 c).before 10 t d))
    ∗ (∃ d, owns (c : Thread nD τ) (st m 11 t) fullShare ((dats m 0 c).before 11 t d))
    ∗ (∃ d, owns (c : Thread nD τ) (st m 12 t) fullShare ((dats m 0 c).before 12 t d))
    ∗ (∃ d, owns (c : Thread nD τ) (st m 13 t) fullShare ((dats m 0 c).before 13 t d))
    ∗ (∃ d, owns (c : Thread nD τ) (st m 14 t) fullShare ((dats m 0 c).before 14 t d))
    ∗ (∃ d, owns (c : Thread nD τ) (st m 15 t) fullShare ((dats m 0 c).before 15 t d))
    ∗ (∃ d, owns (c : Thread nD τ) (st m 16 t) fullShare ((dats m 0 c).before 16 t d))
    ∗ (∃ d, owns (c : Thread nD τ) (st m 17 t) fullShare ((dats m 0 c).before 17 t d))
    ∗ (∃ d, owns (c : Thread nD τ) (st m 18 t) fullShare ((dats m 0 c).before 18 t d)))

/-- and what it hands back. -/
def bodyPost (c : Dev nD) (t : Fin (cfgM m).N) : sProp 𝕄 :=
  iprop((dats m 0 c).Φ t.succ ∗ (dats m 0 c).owesAt () t.succ
    ∗ owns (c : Thread nD τ) (st m 0 t) fullShare ((dats m 0 c).after 0 t)
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t)
    ∗ owns (c : Thread nD τ) (st m 6 t) fullShare ((dats m 0 c).after 6 t)
    ∗ owns (c : Thread nD τ) (st m 7 t) fullShare ((dats m 0 c).after 7 t)
    ∗ owns (c : Thread nD τ) (st m 8 t) fullShare ((dats m 0 c).after 8 t)
    ∗ owns (c : Thread nD τ) (st m 9 t) fullShare ((dats m 0 c).after 9 t)
    ∗ owns (c : Thread nD τ) (st m 10 t) fullShare ((dats m 0 c).after 10 t)
    ∗ owns (c : Thread nD τ) (st m 11 t) fullShare ((dats m 0 c).after 11 t)
    ∗ owns (c : Thread nD τ) (st m 12 t) fullShare ((dats m 0 c).after 12 t)
    ∗ owns (c : Thread nD τ) (st m 13 t) fullShare ((dats m 0 c).after 13 t)
    ∗ owns (c : Thread nD τ) (st m 14 t) fullShare ((dats m 0 c).after 14 t)
    ∗ owns (c : Thread nD τ) (st m 15 t) fullShare ((dats m 0 c).after 15 t)
    ∗ owns (c : Thread nD τ) (st m 16 t) fullShare ((dats m 0 c).after 16 t)
    ∗ owns (c : Thread nD τ) (st m 17 t) fullShare ((dats m 0 c).after 17 t)
    ∗ owns (c : Thread nD τ) (st m 18 t) fullShare ((dats m 0 c).after 18 t))

/-- The scratch before point `t`, whatever it holds, and how the point's own scratch follows from it. -/
theorem Phi_open (c : Dev nD) (t : Fin (cfgM m).N) :
    PhiS m c t.val ⊢ iprop(∃ s0 s1 s2, ⌜(t.val = 0 ∨ (t.val ≠ 0 ∧ scrA m c = s0 ∧ scrB m c = s1 ∧ scrW m c = s2))⌝
      ∗ iprop(owns (c : Thread nD τ) scA fullShare s0 ∗ owns (c : Thread nD τ) scB fullShare s1 ∗ owns (c : Thread nD τ) scW fullShare s2) ∗ (∃ r, prngReg c r) ∗ tbPt c tbM (tbl m 0)) := by
  by_cases h : t.val = 0
  · rw [h, show PhiS m c 0 = iprop(Pipeline.ΦA spec0 c ∗ Pipeline.ΦT pre0 (tbl m) c) from rfl, PhiA_eq, PhiT_eq]
    iintro ⟨⟨⟨⟨%s0, HS0⟩, ⟨%s1, HS1⟩, ⟨%s2, HS2⟩⟩, Hg⟩, HT⟩
    iexists s0; iexists s1; iexists s2
    isplitr; · ipureintro; exact .inl rfl
    isplitl [HS0 HS1 HS2]
    · isplitl [HS0]; · iexact HS0
      isplitl [HS1]; · iexact HS1
      iexact HS2
    isplitl [Hg]; · iexact Hg
    iexact HT
  · rw [PhiS_pos m c _ h, PhiT_eq]
    iintro ⟨⟨⟨HS0, HS1, HS2⟩, Hg⟩, HT⟩
    iexists _; iexists _; iexists _
    isplitr; · ipureintro; exact .inr ⟨h, rfl, rfl, rfl⟩
    isplitl [HS0 HS1 HS2]
    · isplitl [HS0]; · iexact HS0
      isplitl [HS1]; · iexact HS1
      iexact HS2
    isplitl [Hg]; · iexact Hg
    iexact HT

theorem scr_cases (c : Dev nD) (t : Fin (cfgM m).N) {s0 s1 : Vec F S16x16 .f32} {s2 : Vec F S16x1024 .f32}
    (h : t.val = 0 ∨ (t.val ≠ 0 ∧ scrA m c = s0 ∧ scrB m c = s1 ∧ scrW m c = s2)) :
    (atFirst (grid0.coords t) ∧ scrA m c = circA (iblk m c 7 t) (iblk m c 8 t) (iblk m c 14 t) (iblk m c 15 t) (iblk m c 16 t) ∧ scrB m c = circB (iblk m c 7 t) (iblk m c 8 t) (iblk m c 14 t) (iblk m c 15 t) (iblk m c 16 t)
        ∧ scrW m c = upW (iblk m c 9 t) (iblk m c 10 t) (iblk m c 11 t) (iblk m c 17 t))
      ∨ (¬atFirst (grid0.coords t) ∧ scrA m c = s0 ∧ scrB m c = s1 ∧ scrW m c = s2) := by
  rcases h with h | ⟨h, h'⟩
  · obtain rfl : t = t0 m := Fin.ext h
    exact .inl ⟨(atFirst_iff _).2 rfl, rfl, rfl, rfl⟩
  · exact .inr ⟨fun e => h ((atFirst_iff t).1 e), h'⟩

theorem out_cases (c : Dev nD) (t : Fin (cfgM m).N) :
    (k0_cond2 (wordAt m t) = 1#1 ∧ ¬k0_cond3 (wordAt m t) = 1#1 ∧ outAt m c t = outC (iblk m c 0 t) (iblk m c 1 t) (iblk m c 2 t) (iblk m c 3 t) (iblk m c 4 t) (iblk m c 12 t) (iblk m c 13 t))
      ∨ (¬k0_cond2 (wordAt m t) = 1#1 ∧ k0_cond3 (wordAt m t) = 1#1 ∧ outAt m c t = outQ (iblk m c 0 t) (iblk m c 5 t) (iblk m c 6 t) (scrA m c) (scrB m c) (scrW m c) (iblk m c 12 t) (iblk m c 13 t)) := by
  rcases cond_cases (wordAt m t) with h | h
  · exact .inl ⟨h.1, h.2, if_pos h.1⟩
  · exact .inr ⟨h.1, h.2, if_neg h.1⟩

/-- `leaves` is `owns`. -/
theorem leaves_owns {sh : Shape} {e : EltTy} {c : Dev nD} {M : Memref sig .tc .vmem sh e} {x : Vec F sh e} :
    (leaves c M x : sProp 𝕄) ⊢ owns (c : Thread nD τ) M fullShare x := by
  unfold owns
  exact Idealize.SL.BI.Entails.refl _

set_option maxHeartbeats 8000000 in
/-- The body at any point, from its run. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost
  simp only [before0, before1, before2, before3, before4, before5, before6, before7, before8, before9, before10, before11, before12, before13, before14, before15, before16, before17]
  rw [show (dats m 0 c).owesAt () t.succ = (dats m 0 c).owesAt () t.castSucc from rfl, after0, after1, after2, after3, after4, after5, after6, after7, after8, after9, after10, after11, after12, after13, after14, after15, after16, after17, after18]
  rw [show (dats m 0 c).Φ t.succ = PhiS m c (t.val + 1) from rfl, PhiS_succ, Phi_castSucc, PhiT_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  ihave ⟨%s0, %s1, %s2, %hs, ⟨HS0, HS1, HS2⟩, Hg, HT⟩ := (Phi_open m c t) $$ HΦ
  iapply (body_run c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (tbl m 0) s0 s1 s2 (scrA m c) (scrB m c) (scrW m c) (outAt m c t) (scr_cases m c t hs) (out_cases m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [HS0]; · iexact HS0
  isplitl [HS1]; · iexact HS1
  isplitl [HS2]; · iexact HS2
  isplitl [HT]; · iexact HT
  iintro ⟨H0, H1, H2, H3, H4, H5, H6, H7, H8, H9, H10, H11, H12, H13, H14, H15, H16, H17, H18, HS0, HS1, HS2, HT⟩
  ihave HS0 := leaves_owns $$ HS0
  ihave HS1 := leaves_owns $$ HS1
  ihave HS2 := leaves_owns $$ HS2
  ihave H18 := leaves_owns $$ H18
  isplitl [HS0 HS1 HS2 Hg HT]
  · isplitl [HS0 HS1 HS2 Hg]
    · isplitl [HS0 HS1 HS2]
      · isplitl [HS0]
        · iexact HS0
        isplitl [HS1]
        · iexact HS1
        iexact HS2
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.KernelIdeal.Hand

end
-- ==== Proof.IdealRun.lean ====
/- The run of `KernelIdeal`: the launch over the pipeline, and the frame. -/
module

public import proofs.«01_k».proof.Proof.IdealFrame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block is written back at every point. -/
theorem flush_out : ∀ t : Fin (cfgM m).N, ((cfgM m).win 18).flush t = true :=
  (fun t => (Pipeline.Window.flushOf_reads cc0_transform_18 reads0_18 hreads0_18 1 (by decide) (by decide) (Pipeline.Window.sep_of_coord cc0_transform_18 1 1 (fun _ => rfl) (by decide)) (P := 1) (m := 0) (by decide) rfl t).mpr (Nat.mod_one _) : ∀ t : Fin grid0.N, Pipeline.Window.flushOf grid0 true cc0_transform_18 t = true)

/-- A window that is written back hands its block back, whether it was idle or not. -/
theorem stored_of_flush {P Q : sProp 𝕄} {i f : Bool} (h : f = true) :
    Q ⊢ (match i with | true => (match f with | false => P | true => Q) | false => Q) := by
  subst h; cases i <;> exact .rfl

theorem defs₀_row (t : Fin (cfgM m).N) :
    defs₀ (F := F) .tc (cfgM m).body ((cfgM m).bodyArgs t ((cfgM m).slots t)) = bodyAt m t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row m]
  refine triple_restated (sound_body m c t) rfl .rfl fun _ => ?_
  unfold bodyPost
  iterate 20 refine sep_mono .rfl ?_
  dsimp only
  have hf : (pcfg0.win (adm m) 18).flush t = true := flush_out m t
  split
  · split
    · rename_i h
      exact absurd (h.symm.trans hf) (by decide)
    · exact Idealize.SL.BI.Entails.refl _
  · exact Idealize.SL.BI.Entails.refl _

theorem hin (c : Dev nD) : iprop(Pipeline.ΦA spec0 c ∗ Pipeline.ΦT pre0 (tbl m) c) ⊢ (dats m 0 c).Φ 0 :=
  Idealize.SL.BI.Entails.refl _

set_option maxHeartbeats 4000000 in
/-- After the last point the scratch's contents are forgotten and the table let go. -/
theorem hout (c : Dev nD) : (dats m 0 c).Φ (Fin.last (cfgM m).N) ⊢ Pipeline.ΦA spec0 c := by
  rw [show (dats m 0 c).Φ (Fin.last (cfgM m).N) = PhiS m c (cfgM m).N from rfl, PhiS_pos m c _ (by rw [show (cfgM m).N = 16 from N_0]; omega), PhiA_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

set_option maxHeartbeats 4000000 in
set_option backward.isDefEq.respectTransparency.types false in
/-- The launch: every execution ends, every array at what the data say, every semaphore at zero. -/
theorem run_main : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

set_option maxHeartbeats 4000000 in
/-- The frame: every execution ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨args_kept m (dats m) (A_eq m) h.1 c (b := main_arg0) (by decide), args_kept m (dats m) (A_eq m) h.1 c (b := main_arg1) (by decide), args_kept m (dats m) (A_eq m) h.1 c (b := main_arg2) (by decide), args_kept m (dats m) (A_eq m) h.1 c (b := main_arg3) (by decide), args_kept m (dats m) (A_eq m) h.1 c (b := main_arg4) (by decide), args_kept m (dats m) (A_eq m) h.1 c (b := main_arg5) (by decide), args_kept m (dats m) (A_eq m) h.1 c (b := main_arg6) (by decide), args_kept m (dats m) (A_eq m) h.1 c (b := main_arg7) (by decide), args_kept m (dats m) (A_eq m) h.1 c (b := main_arg8) (by decide), args_kept m (dats m) (A_eq m) h.1 c (b := main_arg9) (by decide), args_kept m (dats m) (A_eq m) h.1 c (b := main_arg10) (by decide), args_kept m (dats m) (A_eq m) h.1 c (b := main_arg11) (by decide), args_kept m (dats m) (A_eq m) h.1 c (b := main_arg12) (by decide), args_kept m (dats m) (A_eq m) h.1 c (b := main_arg13) (by decide)⟩, h.2⟩) (run_main m ρ)

end Cert.KernelIdeal.Hand

end
-- ==== Proof.IdealBlocks.lean ====
/- The blocks that a grid point reads, as entries of the arguments, and the output array from its blocks. -/
module
public import proofs.«01_k».proof.Proof.IdealRun
public import Idealize.ShloMosaic.Lib.Pointwise
public import Idealize.ShloMosaic.Lib.Pipeline.ValueKit
public import Idealize.ShloMosaic.Lib.StableHlo.ReadAt
@[expose] public section
set_option maxRecDepth 16384
noncomputable section
namespace Cert.KernelIdeal.Hand
open Idealize.ShloMosaic Idealize.ShloMosaic.TcCoe Idealize.ShloMosaic.Tactic
open Cert.KernelIdeal.Gen
open Idealize.SL Idealize.SL.RA
variable (m : (ℓ : Loc nD τ sig) → Buf (Elt Ideal) ℓ)

theorem tr0 : ∀ t : Fin grid0.N, cc0_transform_0 (grid0.coords t) = ![t.val / 4, t.val % 4, 0] := by decide +kernel
theorem tr18 : ∀ t : Fin grid0.N, cc0_transform_18 (grid0.coords t) = ![t.val / 4, t.val % 4, 0] := by decide +kernel
/-- The grid point of an item and a group of 512 tokens. -/
def pt (b g : Fin 4) : Fin grid0.N := ⟨b.val * 4 + g.val, by rw [N_0]; omega⟩

theorem cover18 : ((cfgM m).win 18).Covers := by
  refine (show ((pcfg0.win (adm m)) 18).Covers from ?_)
  refine ⟨fun a => by match a with | 0 => exact (by decide : 0 < 1) | 1 => exact (by decide : 0 < 512) | 2 => exact (by decide : 0 < 1024), fun β => ?_⟩
  have h0 : (β 0).val < 4 := Nat.lt_of_lt_of_eq (β 0).isLt (show (4 + 1 - 1) / 1 = 4 by decide)
  have h1 : (β 1).val < 4 := Nat.lt_of_lt_of_eq (β 1).isLt (show (2048 + 512 - 1) / 512 = 4 by decide)
  have h2 : (β 2).val < 1 := Nat.lt_of_lt_of_eq (β 2).isLt (show (1024 + 1024 - 1) / 1024 = 1 by decide)
  refine ⟨pt ⟨_, h0⟩ ⟨_, h1⟩, flush_out m _, fun a => ?_⟩
  have e : ∀ a, (pcfg0.win (adm m) 18).index (pt ⟨_, h0⟩ ⟨_, h1⟩) a = ![((β 0).val * 4 + (β 1).val) / 4, ((β 0).val * 4 + (β 1).val) % 4, 0] a := fun a => congrFun (tr18 _) a
  refine ⟨(e a).trans ?_, Or.inl rfl⟩
  match a with
  | 0 => show ((β 0).val * 4 + (β 1).val) / 4 = (β 0).val; omega
  | 1 => show ((β 0).val * 4 + (β 1).val) % 4 = (β 1).val; omega
  | 2 => show 0 = (β 2).val; omega

theorem emb0 (t : Fin (cfgM m).N) (r : Fin 512) (k : Fin 1024) (b g : Fin 4) (ht : t = pt b g) :
    ((((cfgM m).win 0).blk t).view.emb (ix3 0 r k)) = ix3 b ⟨g.val * 512 + r.val, by omega⟩ k := by
  have e : ∀ a : Fin 3, ((cfgM m).win 0).index t a = ![t.val / 4, t.val % 4, 0] a := fun a => congrFun (tr0 t) a
  have hv : t.val = b.val * 4 + g.val := by rw [ht]; rfl
  refine funext fun (a : Fin 3) => Fin.ext ?_
  blk_simp
  match a with
  | 0 => have e0 : ((cfgM m).win 0).index t (0 : Fin 3) = t.val / 4 := e 0
         show ((cfgM m).win 0).index t (0 : Fin 3) * 1 + 0 = b.val; omega
  | 1 => have e1 : ((cfgM m).win 0).index t (1 : Fin 3) = t.val % 4 := e 1
         show ((cfgM m).win 0).index t (1 : Fin 3) * 512 + r.val = g.val * 512 + r.val; omega
  | 2 => have e2 : ((cfgM m).win 0).index t (2 : Fin 3) = 0 := e 2
         show ((cfgM m).win 0).index t (2 : Fin 3) * 1024 + k.val = k.val; omega

theorem emb18 (t : Fin (cfgM m).N) (r : Fin 512) (k : Fin 1024) (b g : Fin 4) (ht : t = pt b g) :
    ((((cfgM m).win 18).blk t).view.emb (ix3 0 r k)) = ix3 b ⟨g.val * 512 + r.val, by omega⟩ k := by
  have e : ∀ a : Fin 3, ((cfgM m).win 18).index t a = ![t.val / 4, t.val % 4, 0] a := fun a => congrFun (tr18 t) a
  have hv : t.val = b.val * 4 + g.val := by rw [ht]; rfl
  refine funext fun (a : Fin 3) => Fin.ext ?_
  blk_simp
  match a with
  | 0 => have e0 : ((cfgM m).win 18).index t (0 : Fin 3) = t.val / 4 := e 0
         show ((cfgM m).win 18).index t (0 : Fin 3) * 1 + 0 = b.val; omega
  | 1 => have e1 : ((cfgM m).win 18).index t (1 : Fin 3) = t.val % 4 := e 1
         show ((cfgM m).win 18).index t (1 : Fin 3) * 512 + r.val = g.val * 512 + r.val; omega
  | 2 => have e2 : ((cfgM m).win 18).index t (2 : Fin 3) = 0 := e 2
         show ((cfgM m).win 18).index t (2 : Fin 3) * 1024 + k.val = k.val; omega

theorem iblk0 (c : Dev nD) (r : Fin 512) (k : Fin 1024) (b g : Fin 4) :
    iblk m c 0 (pt b g) (ix3 0 r k) = m ((c : Thread nD τ).loc main_arg0) (ix3 b ⟨g.val * 512 + r.val, by omega⟩ k) := by
  rw [← V_kept m c main_arg0 (by decide)]
  exact congrArg (V m c main_arg0) (emb0 m (pt b g) r k b g rfl)

/-- A window whose index never moves places its block at the block's own indices. The windows are told one by one,
    as each has a shape of its own. -/
theorem blk1 (c : Dev nD) (t : Fin (cfgM m).N) (y : S1024x4096.Idx) : iblk m c 1 t y = V m c main_v72 y :=
  congrArg (V m c main_v72) (funext fun a => Fin.ext (by
    blk_simp
    rw [show ((cfgM m).win 1).index t a = 0 from (by decide +kernel : ∀ t : Fin grid0.N, ∀ a, cc0_transform_1 (grid0.coords t) a = 0) t a]; omega))
theorem blk2 (c : Dev nD) (t : Fin (cfgM m).N) (y : S1x4096.Idx) : iblk m c 2 t y = V m c main_call0_v0 y :=
  congrArg (V m c main_call0_v0) (funext fun a => Fin.ext (by
    blk_simp
    rw [show ((cfgM m).win 2).index t a = 0 from (by decide +kernel : ∀ t : Fin grid0.N, ∀ a, cc0_transform_2 (grid0.coords t) a = 0) t a]; omega))
theorem blk3 (c : Dev nD) (t : Fin (cfgM m).N) (y : S4096x1024.Idx) : iblk m c 3 t y = V m c main_v73 y :=
  congrArg (V m c main_v73) (funext fun a => Fin.ext (by
    blk_simp
    rw [show ((cfgM m).win 3).index t a = 0 from (by decide +kernel : ∀ t : Fin grid0.N, ∀ a, cc0_transform_3 (grid0.coords t) a = 0) t a]; omega))
theorem blk4 (c : Dev nD) (t : Fin (cfgM m).N) (y : S1x1024.Idx) : iblk m c 4 t y = V m c main_call0_v1 y :=
  congrArg (V m c main_call0_v1) (funext fun a => Fin.ext (by
    blk_simp
    rw [show ((cfgM m).win 4).index t a = 0 from (by decide +kernel : ∀ t : Fin grid0.N, ∀ a, cc0_transform_4 (grid0.coords t) a = 0) t a]; omega))
theorem blk5 (c : Dev nD) (t : Fin (cfgM m).N) (y : S1024x4.Idx) : iblk m c 5 t y = V m c main_v74 y :=
  congrArg (V m c main_v74) (funext fun a => Fin.ext (by
    blk_simp
    rw [show ((cfgM m).win 5).index t a = 0 from (by decide +kernel : ∀ t : Fin grid0.N, ∀ a, cc0_transform_5 (grid0.coords t) a = 0) t a]; omega))
theorem blk6 (c : Dev nD) (t : Fin (cfgM m).N) (y : S1x4.Idx) : iblk m c 6 t y = V m c main_call0_v2 y :=
  congrArg (V m c main_call0_v2) (funext fun a => Fin.ext (by
    blk_simp
    rw [show ((cfgM m).win 6).index t a = 0 from (by decide +kernel : ∀ t : Fin grid0.N, ∀ a, cc0_transform_6 (grid0.coords t) a = 0) t a]; omega))
theorem blk7 (c : Dev nD) (t : Fin (cfgM m).N) (y : S8x16x16.Idx) : iblk m c 7 t y = V m c main_v61 y :=
  congrArg (V m c main_v61) (funext fun a => Fin.ext (by
    blk_simp
    rw [show ((cfgM m).win 7).index t a = 0 from (by decide +kernel : ∀ t : Fin grid0.N, ∀ a, cc0_transform_7 (grid0.coords t) a = 0) t a]; omega))
theorem blk8 (c : Dev nD) (t : Fin (cfgM m).N) (y : S8x16x16.Idx) : iblk m c 8 t y = V m c main_v68 y :=
  congrArg (V m c main_v68) (funext fun a => Fin.ext (by
    blk_simp
    rw [show ((cfgM m).win 8).index t a = 0 from (by decide +kernel : ∀ t : Fin grid0.N, ∀ a, cc0_transform_8 (grid0.coords t) a = 0) t a]; omega))
theorem blk9 (c : Dev nD) (t : Fin (cfgM m).N) (y : S8x1024.Idx) : iblk m c 9 t y = V m c main_v70 y :=
  congrArg (V m c main_v70) (funext fun a => Fin.ext (by
    blk_simp
    rw [show ((cfgM m).win 9).index t a = 0 from (by decide +kernel : ∀ t : Fin grid0.N, ∀ a, cc0_transform_9 (grid0.coords t) a = 0) t a]; omega))
theorem blk10 (c : Dev nD) (t : Fin (cfgM m).N) (y : S1x1024.Idx) : iblk m c 10 t y = V m c main_call0_v3 y :=
  congrArg (V m c main_call0_v3) (funext fun a => Fin.ext (by
    blk_simp
    rw [show ((cfgM m).win 10).index t a = 0 from (by decide +kernel : ∀ t : Fin grid0.N, ∀ a, cc0_transform_10 (grid0.coords t) a = 0) t a]; omega))
theorem blk11 (c : Dev nD) (t : Fin (cfgM m).N) (y : S1x1.Idx) : iblk m c 11 t y = V m c main_call0_v4 y :=
  congrArg (V m c main_call0_v4) (funext fun a => Fin.ext (by
    blk_simp
    rw [show ((cfgM m).win 11).index t a = 0 from (by decide +kernel : ∀ t : Fin grid0.N, ∀ a, cc0_transform_11 (grid0.coords t) a = 0) t a]; omega))
theorem blk12 (c : Dev nD) (t : Fin (cfgM m).N) (y : S1x1024.Idx) : iblk m c 12 t y = V m c main_call0_v5 y :=
  congrArg (V m c main_call0_v5) (funext fun a => Fin.ext (by
    blk_simp
    rw [show ((cfgM m).win 12).index t a = 0 from (by decide +kernel : ∀ t : Fin grid0.N, ∀ a, cc0_transform_12 (grid0.coords t) a = 0) t a]; omega))
theorem blk13 (c : Dev nD) (t : Fin (cfgM m).N) (y : S1x1024.Idx) : iblk m c 13 t y = V m c main_call0_v6 y :=
  congrArg (V m c main_call0_v6) (funext fun a => Fin.ext (by
    blk_simp
    rw [show ((cfgM m).win 13).index t a = 0 from (by decide +kernel : ∀ t : Fin grid0.N, ∀ a, cc0_transform_13 (grid0.coords t) a = 0) t a]; omega))
theorem blk14 (c : Dev nD) (t : Fin (cfgM m).N) (y : S16x16.Idx) : iblk m c 14 t y = V m c main_call0_cst y :=
  congrArg (V m c main_call0_cst) (funext fun a => Fin.ext (by
    blk_simp
    rw [show ((cfgM m).win 14).index t a = 0 from (by decide +kernel : ∀ t : Fin grid0.N, ∀ a, cc0_transform_14 (grid0.coords t) a = 0) t a]; omega))
theorem blk15 (c : Dev nD) (t : Fin (cfgM m).N) (y : S16x16.Idx) : iblk m c 15 t y = V m c main_call0_cst_0 y :=
  congrArg (V m c main_call0_cst_0) (funext fun a => Fin.ext (by
    blk_simp
    rw [show ((cfgM m).win 15).index t a = 0 from (by decide +kernel : ∀ t : Fin grid0.N, ∀ a, cc0_transform_15 (grid0.coords t) a = 0) t a]; omega))
theorem blk16 (c : Dev nD) (t : Fin (cfgM m).N) (y : S2x16.Idx) : iblk m c 16 t y = V m c main_call0_cst_1 y :=
  congrArg (V m c main_call0_cst_1) (funext fun a => Fin.ext (by
    blk_simp
    rw [show ((cfgM m).win 16).index t a = 0 from (by decide +kernel : ∀ t : Fin grid0.N, ∀ a, cc0_transform_16 (grid0.coords t) a = 0) t a]; omega))
theorem blk17 (c : Dev nD) (t : Fin (cfgM m).N) (y : S16x8.Idx) : iblk m c 17 t y = V m c main_call0_cst_2 y :=
  congrArg (V m c main_call0_cst_2) (funext fun a => Fin.ext (by
    blk_simp
    rw [show ((cfgM m).win 17).index t a = 0 from (by decide +kernel : ∀ t : Fin grid0.N, ∀ a, cc0_transform_17 (grid0.coords t) a = 0) t a]; omega))
theorem V_W1 (c : Dev nD) (k : Fin 1024) (j : Fin 4096) : V m c main_v72 (ix2 k j) = m ((c : Thread nD τ).loc main_arg2) (ix2 k j) := by
  unfold V
  after_reads_at
theorem V_b1 (c : Dev nD) (j : Fin 4096) : V m c main_call0_v0 (ix2 0 j) = m ((c : Thread nD τ).loc main_arg3) (ix1 j) := by
  unfold V
  after_reads_at
theorem V_W2 (c : Dev nD) (j : Fin 4096) (d : Fin 1024) : V m c main_v73 (ix2 j d) = m ((c : Thread nD τ).loc main_arg4) (ix2 j d) := by
  unfold V
  after_reads_at
theorem V_b2 (c : Dev nD) (d : Fin 1024) : V m c main_call0_v1 (ix2 0 d) = m ((c : Thread nD τ).loc main_arg5) (ix1 d) := by
  unfold V
  after_reads_at
theorem V_Wd (c : Dev nD) (k : Fin 1024) (w : Fin 4) : V m c main_v74 (ix2 k w) = m ((c : Thread nD τ).loc main_arg6) (ix2 k w) := by
  unfold V
  after_reads_at
theorem V_bd (c : Dev nD) (w : Fin 4) : V m c main_call0_v2 (ix2 0 w) = m ((c : Thread nD τ).loc main_arg7) (ix1 w) := by
  unfold V
  after_reads_at
theorem V_bu (c : Dev nD) (d : Fin 1024) : V m c main_call0_v3 (ix2 0 d) = m ((c : Thread nD τ).loc main_arg9) (ix1 d) := by
  unfold V
  after_reads_at
theorem V_gamma (c : Dev nD) (d : Fin 1024) : V m c main_call0_v5 (ix2 0 d) = m ((c : Thread nD τ).loc main_arg12) (ix1 d) := by
  unfold V
  after_reads_at
theorem V_beta (c : Dev nD) (d : Fin 1024) : V m c main_call0_v6 (ix2 0 d) = m ((c : Thread nD τ).loc main_arg13) (ix1 d) := by
  unfold V
  after_reads_at
theorem V_qs (c : Dev nD)  : V m c main_call0_v4 (ix2 0 0) = FloatOps.absf (F := Ideal) (φ := .f32) (m ((c : Thread nD τ).loc main_arg11) Idealize.ShloMosaic.ix0) := by
  unfold V
  after_reads_at
theorem V_Wu (c : Dev nD) (w : Fin 4) (d : Fin 1024) : V m c main_v70 (ix2 ⟨w.val, by omega⟩ d) = m ((c : Thread nD τ).loc main_arg8) (ix2 w d) := by
  unfold V
  after_reads_at
theorem V_Wu0 (c : Dev nD) (w : Fin 4) (d : Fin 1024) : V m c main_v70 (ix2 ⟨4 + w.val, by omega⟩ d) = (Ideal.ofBits .f32 0#32 : EReal) := by
  unfold V
  after_reads_at

theorem block_idx (y : S1x512x1024.Idx) : ∃ (r : Fin 512) (d : Fin 1024), y = ix3 (0 : Fin 1) r d := by
  refine ⟨y 1, y 2, ?_⟩
  funext a
  match a with
  | 0 => exact Subsingleton.elim (α := Fin 1) _ _
  | 1 => rfl
  | 2 => rfl

/-- The output array, from the value its blocks are left with. -/
theorem out_eq (c : Dev nD) (G : Vec Ideal S4x2048x1024 .f32)
    (h : ∀ (b g : Fin 4) (r : Fin 512) (d : Fin 1024), outAt m c (pt b g) (ix3 0 r d) = G (ix3 b ⟨g.val * 512 + r.val, by omega⟩ d)) :
    (dats m 0 c).arrAt 18 (cfgM m).N = G := by
  refine (dats m 0 c).arrAt_eq_of_covers 18 _ (cover18 m) fun t hf y => ?_
  blk_simp
  rw [after18]
  have hN : t.val < 16 := Nat.lt_of_lt_of_eq t.isLt N_0
  obtain ⟨b, g, rfl⟩ : ∃ b g : Fin 4, t = pt b g := ⟨⟨t.val / 4, by omega⟩, ⟨t.val % 4, by omega⟩, Fin.ext (by show t.val = t.val / 4 * 4 + t.val % 4; omega)⟩
  obtain ⟨r, d, rfl⟩ := block_idx y
  exact (h b g r d).trans (congrArg G (emb18 m (pt b g) r d b g rfl)).symm

theorem word_pt (b g : Fin 4) : wordAt m (pt b g) = BitVec.setWidth 32
      (BitVec.ofBool (decide (Ideal.ofBits FTy.f32 1056964608#32 < m (((0 : Dev nD) : Thread nD τ).loc main_arg1) (ix1 b)))) := by
  have h : V m 0 main_v2 (ix1 b) = BitVec.setWidth 32
      (BitVec.ofBool (decide (Ideal.ofBits FTy.f32 1056964608#32 < m (((0 : Dev nD) : Thread nD τ).loc main_arg1) (ix1 b)))) := by
    unfold V
    after_reads_at
  rw [← h]
  unfold wordAt word
  refine congrArg (V m 0 main_v2) (funext fun a => Fin.ext ?_)
  have h1 : ∀ b g : Fin 4, k0_off1 (grid0.coords (pt b g)) 0 = b.val := by decide +kernel
  obtain rfl : a = 0 := Subsingleton.elim (α := Fin 1) _ _
  exact (show k0_off1 (grid0.coords (pt b g)) 0 + 1 * 0 = b.val by rw [h1]; rfl)
end Cert.KernelIdeal.Hand
-- ==== Proof.RowSpec.lean ====
/- The row of the result in the terms that both programs are read in: the normalization and the feed-forward branch. -/
module
public import Idealize.ShloMosaic.PureOps.Ideal
public import Idealize.ShloMosaic.PureOps.Ideal.Laws
public import Idealize.ShloMosaic.Lib.Pointwise
@[expose] public section
noncomputable section
namespace Cert.Row
open Idealize.ShloMosaic

/-- A row of 1024 numbers normalized to mean zero and variance one, then scaled and shifted. -/
def lnorm (y : Fin 1024 → EReal) (g s : EReal) (d : Fin 1024) : EReal :=
  (y d - Ideal.div (∑ x, y x) (Ideal.ofBits .f32 1149239296#32)) *
      Ideal.rsqrt (Ideal.div (∑ x, (y x - Ideal.div (∑ x, y x) (Ideal.ofBits .f32 1149239296#32)) *
        (y x - Ideal.div (∑ x, y x) (Ideal.ofBits .f32 1149239296#32))) (Ideal.ofBits .f32 1149239296#32)
        + Ideal.ofBits .f32 925353388#32) * g + s

/-- The exact GELU by the complementary error function. -/
def gelu (h : EReal) : EReal :=
  Ideal.ofBits FTy.f32 1056964608#32 * h * Ideal.erfc (Ideal.div (-h) (Ideal.sqrt (Ideal.ofBits FTy.f32 1073741824#32)))

/-- The hidden layer of the feed-forward branch. -/
def hid (x : Fin 1024 → EReal) (W1 : Fin 1024 → Fin 4096 → EReal) (b1 : Fin 4096 → EReal) (j : Fin 4096) : EReal :=
  ∑ k, x k * W1 k j + b1 j

/-- The feed-forward branch with its residual, before the normalization. -/
def cls (x : Fin 1024 → EReal) (W1 : Fin 1024 → Fin 4096 → EReal) (b1 : Fin 4096 → EReal)
    (W2 : Fin 4096 → Fin 1024 → EReal) (b2 : Fin 1024 → EReal) (d : Fin 1024) : EReal :=
  x d + (∑ j, gelu (hid x W1 b1 j) * W2 j d + b2 d)

theorem half32 : Ideal.ofBits .f32 1056964608#32 = ((1 / 2 : ℝ) : EReal) := by
  simp [Ideal.ofBits, Ideal.ieee, -EReal.coe_mul]; norm_num
theorem half16 : Ideal.ofBits .bf16 16128#16 = ((1 / 2 : ℝ) : EReal) := by
  simp [Ideal.ofBits, Ideal.ieee, -EReal.coe_mul]; norm_num
theorem two32 : Ideal.ofBits .f32 1073741824#32 = ((2 : ℝ) : EReal) := by
  simp [Ideal.ofBits, Ideal.ieee, -EReal.coe_mul]; norm_num
theorem n1024 : Ideal.ofBits .f32 1149239296#32 = ((1024 : ℝ) : EReal) := by
  simp [Ideal.ofBits, Ideal.ieee, -EReal.coe_mul]; norm_num

theorem zero32 : Ideal.ofBits .f32 0#32 = ((0 : ℝ) : EReal) := by
  simp [Ideal.ofBits, Ideal.ieee, -EReal.coe_mul]
theorem negzero32 : Ideal.ofBits .f32 2147483648#32 = ((0 : ℝ) : EReal) := by
  simp [Ideal.ofBits, Ideal.ieee, -EReal.coe_mul]
theorem one32 : Ideal.ofBits .f32 1065353216#32 = ((1 : ℝ) : EReal) := by
  simp [Ideal.ofBits, Ideal.ieee, -EReal.coe_mul]; norm_num
theorem negone32 : Ideal.ofBits .f32 3212836864#32 = ((-1 : ℝ) : EReal) := by
  simp [Ideal.ofBits, Ideal.ieee, -EReal.coe_mul]; norm_num
theorem ten32 : Ideal.ofBits .f32 1092616192#32 = ((10 : ℝ) : EReal) := by
  simp [Ideal.ofBits, Ideal.ieee, -EReal.coe_mul]; norm_num
theorem negten32 : Ideal.ofBits .f32 3240099840#32 = ((-10 : ℝ) : EReal) := by
  simp [Ideal.ofBits, Ideal.ieee, -EReal.coe_mul]; norm_num
/-- Pi as the reference rounds it, and half of it as the kernel does. -/
theorem pi32 : Ideal.ofBits .f32 1078530011#32 = ((13176795 / 4194304 : ℝ) : EReal) := by
  simp [Ideal.ofBits, Ideal.ieee, -EReal.coe_mul]; norm_num
theorem halfpi32 : Ideal.ofBits .f32 1070141403#32 = ((13176795 / 8388608 : ℝ) : EReal) := by
  simp [Ideal.ofBits, Ideal.ieee, -EReal.coe_mul]; norm_num
theorem inf32 : Ideal.ofBits .f32 2139095040#32 = ⊤ := by
  simp [Ideal.ofBits, Ideal.ieee]

/-- The kernel's spelling of the GELU, by the error function and the reciprocal of the root of two. -/
theorem gelu_eq (h : EReal) : h * Ideal.ofBits .bf16 16128#16 * (1 + Ideal.erf (h * (((Real.sqrt 2)⁻¹ : ℝ) : EReal))) = gelu h := by
  unfold gelu
  rw [half32, half16, two32, Ideal.sqrt_coe, if_neg (by norm_num), Ideal.div_coe (Real.sqrt_pos.mpr (by norm_num)).ne',
    neg_mul, Ideal.erfc_neg, mul_comm h, one_div (Real.sqrt 2)]

/-- The variance's divisor is the number of the row's entries. -/
theorem n_sub : Ideal.ofBits .f32 1149239296#32 - FloatOps.sitofp (F := Ideal) FTy.f32 0#32 = Ideal.ofBits .f32 1149239296#32 := by
  have h : FloatOps.sitofp (F := Ideal) FTy.f32 0#32 = (0 : EReal) := by
    show (((0#32 : BitVec 32).toInt : ℝ) : EReal) = 0
    simp
  rw [h, sub_zero]

theorem n_pos : (0 : EReal) < Ideal.ofBits .f32 1149239296#32 := by
  rw [n1024]; exact_mod_cast (by norm_num : (0 : ℝ) < 1024)

/-- A normalized row of the feed-forward branch depends on its inputs' entries only. -/
theorem lnorm_cls_congr {x x' : Fin 1024 → EReal} {W1 W1' : Fin 1024 → Fin 4096 → EReal} {b1 b1' : Fin 4096 → EReal}
    {W2 W2' : Fin 4096 → Fin 1024 → EReal} {b2 b2' y : Fin 1024 → EReal} {g g' s s' : EReal} {d : Fin 1024}
    (hx : ∀ k, x k = x' k) (hW1 : ∀ k j, W1 k j = W1' k j) (hb1 : ∀ j, b1 j = b1' j) (hW2 : ∀ j d, W2 j d = W2' j d)
    (hb2 : ∀ d, b2 d = b2' d) (hy : ∀ d, y d = cls x' W1' b1' W2' b2' d) (hg : g = g') (hs : s = s') :
    lnorm (cls x W1 b1 W2 b2) g s d = lnorm y g' s' d := by
  obtain rfl : x = x' := funext hx
  obtain rfl : W1 = W1' := funext fun k => funext (hW1 k)
  obtain rfl : b1 = b1' := funext hb1
  obtain rfl : W2 = W2' := funext fun k => funext (hW2 k)
  obtain rfl : b2 = b2' := funext hb2
  obtain rfl : y = _ := funext hy
  rw [hg, hs]

end Cert.Row
-- ==== Proof.IdealRow.lean ====
/- The kernel's output on the classical branch, row by row. -/
module
public import proofs.«01_k».proof.Proof.IdealBody
public import proofs.«01_k».proof.Proof.RowSpec
public import Idealize.ShloMosaic.Lib.Pointwise
@[expose] public section
set_option maxRecDepth 16384
noncomputable section
namespace Cert.KernelIdeal.Hand
open Idealize.ShloMosaic Idealize.ShloMosaic.TcCoe Idealize.ShloMosaic.Tactic
open Cert.KernelIdeal.Gen

/-- The named constant's value. -/
theorem sqrt_half : (Named.named (F := Ideal) κ "sqrt_half" 16181#16 : Ideal .bf16) = (((Real.sqrt 2)⁻¹ : ℝ) : EReal) :=
  IdealRules.named_const.ideal_named_scalar _ _ _ _ rfl

/-- The output block of a point on the classical branch, entry by entry. -/
theorem outC_at (x0 : Vec Ideal S1x512x1024 .f32) (x1 : Vec Ideal S1024x4096 .bf16) (x2 : Vec Ideal S1x4096 .f32) (x3 : Vec Ideal S4096x1024 .bf16) (x4 x12 x13 : Vec Ideal S1x1024 .f32) (r : Fin 512) (d : Fin 1024) :
    outC x0 x1 x2 x3 x4 x12 x13 (ix3 0 r d) = Row.lnorm (Row.cls (fun k => x0 (ix3 0 r k)) (fun k j => x1 (ix2 k j))
      (fun j => x2 (ix2 0 j)) (fun j d => x3 (ix2 j d)) (fun d => x4 (ix2 0 d))) (x12 (ix2 0 d)) (x13 (ix2 0 d)) d := by
  unfold outC
  unfold_payloads
  pointwise
  rw [sqrt_half]
  unfold Row.lnorm Row.cls Row.hid
  simp only [← Row.gelu_eq, add_assoc]
  rfl

end Cert.KernelIdeal.Hand
-- ==== Proof.RefRow.lean ====
module
public import proofs.«01_k».proof.Proof.Gen.ReferenceIdeal.Run
public import proofs.«01_k».proof.Proof.RowSpec
public import Idealize.ShloMosaic.Lib.Pointwise
public import Idealize.ShloMosaic.Lib.StableHlo.ReadAt
@[expose] public section
set_option maxRecDepth 16384
noncomputable section
namespace Cert.ReferenceIdeal.Value
open Idealize.ShloMosaic Idealize.ShloMosaic.TcCoe Idealize.ShloMosaic.Tactic
open Cert.ReferenceIdeal Cert.ReferenceIdeal.Gen
variable (V0 : Valuation τ sig (Elt Ideal))

/-- The reference's circuit branch, before the normalization. -/
def refQ : Vec Ideal S4x2048x1024 .f32 := addf (V0 (Proc.devRef .tc main_arg0) : Vec Ideal S4x2048x1024 .f32) (mulf (shapeCast S4x2048x1024 (addf (Host.dotGeneral (φ₂ := .f32) dot_S8192x4_S4x1024_S8192x1024_1_0_0_1_n_n none (Host.dotGeneral (φ₂ := .f32) dot_S8192x16_S16x4_S8192x4_1_0_0_1_n_n none (addf (mulf (res_main_v265 V0) (res_main_v265 V0)) (mulf (res_main_v266 V0) (res_main_v266 V0))) ((fun i => FloatOps.ofBits .f32 (lit2 (S16x4.rowMajor i))))) (V0 (Proc.devRef .tc main_arg8) : Vec Ideal S4x1024 .f32)) (broadcastInDim S8192x1024 ![0, 1] bcast_S1x1024_S8192x1024_0_1 (broadcastInDim S1x1024 ![1] bcast_S1024_S1x1024_1 (V0 (Proc.devRef .tc main_arg9) : Vec Ideal S1024 .f32)))) shapeCasts_S8192x1024_S4x2048x1024) (broadcastInDim S4x2048x1024 ![] bcast_S_S4x2048x1024 (Host.absf (V0 (Proc.devRef .tc main_arg11) : Vec Ideal S_ .f32))))

/-- The reference's feed-forward branch, before the normalization. -/
def refC : Vec Ideal S4x2048x1024 .f32 := addf (V0 (Proc.devRef .tc main_arg0) : Vec Ideal S4x2048x1024 .f32) (addf (Host.dotGeneral (φ₂ := .f32) dot_S4x2048x4096_S4096x1024_S4x2048x1024_2_0_01_1_n_n none (mulf (mulf (broadcastInDim S4x2048x4096 ![] bcast_S_S4x2048x4096 (constant S_ .f32 0x3F000000#32)) (res_main_v3 V0)) (Host.erfc (Host.divf (Host.negf (res_main_v3 V0)) (broadcastInDim S4x2048x4096 ![] bcast_S_S4x2048x4096 (Host.sqrt (constant S_ .f32 0x40000000#32)))))) (V0 (Proc.devRef .tc main_arg4) : Vec Ideal S4096x1024 .f32)) (broadcastInDim S4x2048x1024 ![0, 1, 2] bcast_S1x1x1024_S4x2048x1024_0_1_2 (broadcastInDim S1x1x1024 ![2] bcast_S1024_S1x1x1024_2 (V0 (Proc.devRef .tc main_arg5) : Vec Ideal S1024 .f32))))

/-- Which items are routed to the circuit. -/
def refSel : Vec Ideal S4x2048x1024 .i1 := broadcastInDim S4x2048x1024 ![0, 1, 2] bcast_S4x1x1_S4x2048x1024_0_1_2 (broadcastInDim S4x1x1 ![0] bcast_S4_S4x1x1_0 (cmpf (F := Ideal) (φ := .f32) .ogt (V0 (Proc.devRef .tc main_arg1) : Vec Ideal S4 .f32) (broadcastInDim S4 ![] bcast_S_S4 (constant S_ .f32 0x3F000000#32))))

theorem v283_sel : res_main_v283 V0 = select (refSel V0) (refQ V0) (refC V0) := by
  unfold res_main_v283 refSel refQ refC; rfl

theorem v283_at (b : Fin 4) (t : Fin 2048) (d : Fin 1024) : res_main_v283 V0 (ix3 b t d) =
    if Ideal.ofBits FTy.f32 1056964608#32 < V0 (Proc.devRef .tc main_arg1) (ix1 b) then refQ V0 (ix3 b t d) else refC V0 (ix3 b t d) := by
  rw [v283_sel]
  generalize refQ V0 = Q
  generalize refC V0 = C
  unfold refSel
  pointwise

theorem refC_at (b : Fin 4) (t : Fin 2048) (d : Fin 1024) : refC V0 (ix3 b t d) =
    Row.cls (fun k => V0 (Proc.devRef .tc main_arg0) (ix3 b t k)) (fun k j => V0 (Proc.devRef .tc main_arg2) (ix2 k j))
      (fun j => V0 (Proc.devRef .tc main_arg3) (ix1 j)) (fun j d => V0 (Proc.devRef .tc main_arg4) (ix2 j d))
      (fun d => V0 (Proc.devRef .tc main_arg5) (ix1 d)) d := by
  unfold refC res_main_v3 Row.cls Row.gelu Row.hid
  clean_types
  pointwise

/-- The reference's result. -/
def refOut : Vec Ideal S4x2048x1024 .f32 := addf (mulf (mulf (subf (res_main_v283 V0) (broadcastInDim S4x2048x1024 ![0, 1, 2] bcast_S4x2048x1_S4x2048x1024_0_1_2 (Host.divf (broadcastInDim S4x2048x1 ![0, 1] bcast_S4x2048_S4x2048x1_0_1 (Host.reduceAdd (res_main_v283 V0) (constant S_ .f32 0x00000000#32) reducesTo_S4x2048x1024_S4x2048_d2 h_S_)) (broadcastInDim S4x2048x1 ![] bcast_S_S4x2048x1 (constant S_ .f32 0x44800000#32))))) (broadcastInDim S4x2048x1024 ![0, 1, 2] bcast_S4x2048x1_S4x2048x1024_0_1_2 (Host.rsqrt (addf (select (broadcastInDim S4x2048x1 ![] bcast_S_S4x2048x1 (cmpf .ogt (res_main_call2_v8 V0) (constant S_ .f32 0x00000000#32))) (Host.divf (broadcastInDim S4x2048x1 ![0, 1] bcast_S4x2048_S4x2048x1_0_1 (Host.reduceAdd (φ := .f32) (mulf (res_main_call2_v5 V0) (res_main_call2_v5 V0)) (constant S_ .f32 0x00000000#32) reducesTo_S4x2048x1024_S4x2048_d2 h_S_)) (broadcastInDim S4x2048x1 ![] bcast_S_S4x2048x1 (res_main_call2_v8 V0))) (broadcastInDim S4x2048x1 ![] bcast_S_S4x2048x1 (id (constant S_ .f32 0x7FC00000#32)))) (broadcastInDim S4x2048x1 ![] bcast_S_S4x2048x1 (constant S_ .f32 0x3727C5AC#32)))))) (broadcastInDim S4x2048x1024 ![0, 1, 2] bcast_S1x1x1024_S4x2048x1024_0_1_2 (broadcastInDim S1x1x1024 ![2] bcast_S1024_S1x1x1024_2 (V0 (Proc.devRef .tc main_arg12))))) (broadcastInDim S4x2048x1024 ![0, 1, 2] bcast_S1x1x1024_S4x2048x1024_0_1_2 (broadcastInDim S1x1x1024 ![2] bcast_S1024_S1x1x1024_2 (V0 (Proc.devRef .tc main_arg13))))

theorem refOut_at (b : Fin 4) (t : Fin 2048) (d : Fin 1024) : refOut V0 (ix3 b t d) =
    Row.lnorm (fun d => res_main_v283 V0 (ix3 b t d)) (V0 (Proc.devRef .tc main_arg12) (ix1 d)) (V0 (Proc.devRef .tc main_arg13) (ix1 d)) d := by
  unfold refOut res_main_call2_v5 res_main_call2_v8 Row.lnorm
  generalize res_main_v283 V0 = Y
  clean_types
  pointwise
  rw [Row.n_sub, if_pos Row.n_pos]

end Cert.ReferenceIdeal.Value
-- ==== Proof.Value.lean ====
/- The kernel's result and the reference's, entry by entry. -/
module
public import proofs.«01_k».proof.Proof.IdealBlocks
public import proofs.«01_k».proof.Proof.IdealRow
public import proofs.«01_k».proof.Proof.RefRow
@[expose] public section
set_option maxRecDepth 16384
noncomputable section
namespace Cert.KernelIdeal.Hand
open Idealize.ShloMosaic Idealize.ShloMosaic.TcCoe Idealize.ShloMosaic.Tactic
open Cert.KernelIdeal.Gen
variable (m : (ℓ : Loc nD τ sig) → Buf (Elt Ideal) ℓ)
variable (V0 : Valuation Cert.ReferenceIdeal.τ Cert.ReferenceIdeal.sig (Elt Ideal))

/-- The reference starts from the kernel's arguments. -/
structure Agree : Prop where
  a0 : V0 (Proc.devRef .tc Cert.ReferenceIdeal.main_arg0) = m (((0 : Dev nD) : Thread nD τ).loc main_arg0)
  a1 : V0 (Proc.devRef .tc Cert.ReferenceIdeal.main_arg1) = m (((0 : Dev nD) : Thread nD τ).loc main_arg1)
  a2 : V0 (Proc.devRef .tc Cert.ReferenceIdeal.main_arg2) = m (((0 : Dev nD) : Thread nD τ).loc main_arg2)
  a3 : V0 (Proc.devRef .tc Cert.ReferenceIdeal.main_arg3) = m (((0 : Dev nD) : Thread nD τ).loc main_arg3)
  a4 : V0 (Proc.devRef .tc Cert.ReferenceIdeal.main_arg4) = m (((0 : Dev nD) : Thread nD τ).loc main_arg4)
  a5 : V0 (Proc.devRef .tc Cert.ReferenceIdeal.main_arg5) = m (((0 : Dev nD) : Thread nD τ).loc main_arg5)
  a6 : V0 (Proc.devRef .tc Cert.ReferenceIdeal.main_arg6) = m (((0 : Dev nD) : Thread nD τ).loc main_arg6)
  a7 : V0 (Proc.devRef .tc Cert.ReferenceIdeal.main_arg7) = m (((0 : Dev nD) : Thread nD τ).loc main_arg7)
  a8 : V0 (Proc.devRef .tc Cert.ReferenceIdeal.main_arg8) = m (((0 : Dev nD) : Thread nD τ).loc main_arg8)
  a9 : V0 (Proc.devRef .tc Cert.ReferenceIdeal.main_arg9) = m (((0 : Dev nD) : Thread nD τ).loc main_arg9)
  a10 : V0 (Proc.devRef .tc Cert.ReferenceIdeal.main_arg10) = m (((0 : Dev nD) : Thread nD τ).loc main_arg10)
  a11 : V0 (Proc.devRef .tc Cert.ReferenceIdeal.main_arg11) = m (((0 : Dev nD) : Thread nD τ).loc main_arg11)
  a12 : V0 (Proc.devRef .tc Cert.ReferenceIdeal.main_arg12) = m (((0 : Dev nD) : Thread nD τ).loc main_arg12)
  a13 : V0 (Proc.devRef .tc Cert.ReferenceIdeal.main_arg13) = m (((0 : Dev nD) : Thread nD τ).loc main_arg13)

/-- What is to be shown of a block of an item routed to the circuit: the rows before the normalization are equal. -/
abbrev CircuitRows (b : Fin 4) : Prop := ∀ (g : Fin 4) (r : Fin 512) (d : Fin 1024),
  outQ (iblk m 0 0 (pt b g)) (iblk m 0 5 (pt b g)) (iblk m 0 6 (pt b g)) (scrA m 0) (scrB m 0) (scrW m 0) (iblk m 0 12 (pt b g)) (iblk m 0 13 (pt b g)) (ix3 0 r d)
    = Row.lnorm (fun x => Cert.ReferenceIdeal.Value.refQ V0 (ix3 b ⟨g.val * 512 + r.val, by omega⟩ x))
        (V0 (Proc.devRef .tc Cert.ReferenceIdeal.main_arg12) (ix1 d)) (V0 (Proc.devRef .tc Cert.ReferenceIdeal.main_arg13) (ix1 d)) d

open scoped Classical in
theorem outAt_C (t : Fin (cfgM m).N) (hw : k0_cond2 (wordAt m t) = 1#1) : outAt m 0 t =
    outC (iblk m 0 0 t) (iblk m 0 1 t) (iblk m 0 2 t) (iblk m 0 3 t) (iblk m 0 4 t) (iblk m 0 12 t) (iblk m 0 13 t) := by
  unfold outAt; exact if_pos hw

open scoped Classical in
theorem outAt_Q (t : Fin (cfgM m).N) (hw : ¬k0_cond2 (wordAt m t) = 1#1) : outAt m 0 t =
    outQ (iblk m 0 0 t) (iblk m 0 5 t) (iblk m 0 6 t) (scrA m 0) (scrB m 0) (scrW m 0) (iblk m 0 12 t) (iblk m 0 13 t) := by
  unfold outAt; exact if_neg hw

variable {m V0}

/-- A block of an item routed to the feed-forward branch is the reference's. -/
theorem outC_eq (h : Agree m V0) (b g : Fin 4) (r : Fin 512) (d : Fin 1024) :
    outC (iblk m 0 0 (pt b g)) (iblk m 0 1 (pt b g)) (iblk m 0 2 (pt b g)) (iblk m 0 3 (pt b g)) (iblk m 0 4 (pt b g)) (iblk m 0 12 (pt b g)) (iblk m 0 13 (pt b g)) (ix3 0 r d)
    = Row.lnorm (fun x => Cert.ReferenceIdeal.Value.refC V0 (ix3 b ⟨g.val * 512 + r.val, by omega⟩ x))
        (V0 (Proc.devRef .tc Cert.ReferenceIdeal.main_arg12) (ix1 d)) (V0 (Proc.devRef .tc Cert.ReferenceIdeal.main_arg13) (ix1 d)) d := by
  refine (outC_at _ _ _ _ _ _ _ r d).trans ?_
  exact Row.lnorm_cls_congr (fun k => (iblk0 m 0 r k b g).trans (congrFun h.a0 _).symm)
    (fun k j => ((blk1 m 0 _ _).trans (V_W1 m 0 k j)).trans (congrFun h.a2 _).symm)
    (fun j => ((blk2 m 0 _ _).trans (V_b1 m 0 j)).trans (congrFun h.a3 _).symm)
    (fun j d => ((blk3 m 0 _ _).trans (V_W2 m 0 j d)).trans (congrFun h.a4 _).symm)
    (fun d => ((blk4 m 0 _ _).trans (V_b2 m 0 d)).trans (congrFun h.a5 _).symm)
    (fun x => Cert.ReferenceIdeal.Value.refC_at V0 b _ x)
    (((blk12 m 0 _ _).trans (V_gamma m 0 d)).trans (congrFun h.a12 _).symm)
    (((blk13 m 0 _ _).trans (V_beta m 0 d)).trans (congrFun h.a13 _).symm)

/-- A block of the kernel's output is the reference's, the circuit's rows given. -/
theorem outAt_eq (h : Agree m V0) (b : Fin 4)
    (hq : Ideal.ofBits FTy.f32 1056964608#32 < m (((0 : Dev nD) : Thread nD τ).loc main_arg1) (ix1 b) → CircuitRows m V0 b)
    (g : Fin 4) (r : Fin 512) (d : Fin 1024) :
    outAt m 0 (pt b g) (ix3 0 r d) = Cert.ReferenceIdeal.Value.refOut V0 (ix3 b ⟨g.val * 512 + r.val, by omega⟩ d) := by
  rw [Cert.ReferenceIdeal.Value.refOut_at]
  by_cases hv : Ideal.ofBits FTy.f32 1056964608#32 < m (((0 : Dev nD) : Thread nD τ).loc main_arg1) (ix1 b)
  · have hw : ¬k0_cond2 (wordAt m (pt b g)) = 1#1 := by
      rw [word_pt, decide_eq_true hv]; decide
    have hs : ∀ t x, Cert.ReferenceIdeal.Value.res_main_v283 V0 (ix3 b t x) = Cert.ReferenceIdeal.Value.refQ V0 (ix3 b t x) := fun t x => by
      rw [Cert.ReferenceIdeal.Value.v283_at, h.a1]; exact if_pos hv
    refine (congrFun (outAt_Q m _ hw) _).trans ((hq hv g r d).trans ?_)
    exact congrArg (fun y => Row.lnorm y _ _ d) (funext fun x => (hs _ x).symm)
  · have hw : k0_cond2 (wordAt m (pt b g)) = 1#1 := by
      rw [word_pt, decide_eq_false hv]; decide
    have hs : ∀ t x, Cert.ReferenceIdeal.Value.res_main_v283 V0 (ix3 b t x) = Cert.ReferenceIdeal.Value.refC V0 (ix3 b t x) := fun t x => by
      rw [Cert.ReferenceIdeal.Value.v283_at, h.a1]; exact if_neg hv
    refine (congrFun (outAt_C m _ hw) _).trans ((outC_eq h b g r d).trans ?_)
    exact congrArg (fun y => Row.lnorm y _ _ d) (funext fun x => (hs _ x).symm)

/-- The kernel's output array is the reference's result, the circuit's rows given. -/
theorem result_eq (h : Agree m V0)
    (hq : ∀ b, Ideal.ofBits FTy.f32 1056964608#32 < m (((0 : Dev nD) : Thread nD τ).loc main_arg1) (ix1 b) → CircuitRows m V0 b) :
    (dats m 0 0).arrAt 18 (cfgM m).N = Cert.ReferenceIdeal.Value.refOut V0 :=
  out_eq m 0 _ fun b g r d => outAt_eq h b (hq b) g r d

open Idealize.SL.Sem in
set_option maxHeartbeats 4000000 in
variable (m) (ρ : Dev nD → PrngReg) in
/-- The launch ends with the output array the data name and the arguments unchanged. -/
theorem value_run : θ_run defs (onTc (τ := τ) (main (F := Ideal))) ⟨m, fun _ => 0, ρ⟩ (fun r => ∀ c : Dev nD,
      r.2.mem ((c.tc : Thread nD τ).loc main_v75) = (dats m 0 c).arrAt 18 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have k {b : Ref sig .tc} (hb : b ∈ argRefs) := args_kept m (dats m) (A_eq m) h.1 c hb
    ⟨(h.1 c).1 18, k (b := main_arg0) (by decide), k (b := main_arg1) (by decide), k (b := main_arg2) (by decide), k (b := main_arg3) (by decide), k (b := main_arg4) (by decide), k (b := main_arg5) (by decide), k (b := main_arg6) (by decide), k (b := main_arg7) (by decide), k (b := main_arg8) (by decide), k (b := main_arg9) (by decide), k (b := main_arg10) (by decide), k (b := main_arg11) (by decide), k (b := main_arg12) (by decide), k (b := main_arg13) (by decide)⟩) (run_main m ρ)

end Cert.KernelIdeal.Hand
-- ==== Proof.IdealCirc.lean ====
/- The kernel's output on the circuit's branch, row by row. -/
module
public import proofs.«01_k».proof.Proof.IdealBody
public import proofs.«01_k».proof.Proof.RowSpec
public import Idealize.ShloMosaic.Lib.Pointwise
@[expose] public section
set_option maxRecDepth 16384
noncomputable section
namespace Cert.KernelIdeal.Hand
open Idealize.ShloMosaic Idealize.ShloMosaic.TcCoe Idealize.ShloMosaic.Tactic
open Cert.KernelIdeal.Gen

/-- The sixteen products of a cosine or a sine per wire, as the columns of one matrix. -/
def mags (c s : FVec Ideal S512x4 .f32) : FVec Ideal S512x16 .f32 := concatenate S512x16 1 [
  ⟨S512x1, mulf (mulf (extractStridedSlice S512x1 ![0, 0] c slices_S512x4_o0_0_S512x1) (extractStridedSlice S512x1 ![0, 1] c slices_S512x4_o0_1_S512x1)) (mulf (extractStridedSlice S512x1 ![0, 2] c slices_S512x4_o0_2_S512x1) (extractStridedSlice S512x1 ![0, 3] c slices_S512x4_o0_3_S512x1))⟩,
  ⟨S512x1, mulf (mulf (extractStridedSlice S512x1 ![0, 0] c slices_S512x4_o0_0_S512x1) (extractStridedSlice S512x1 ![0, 1] c slices_S512x4_o0_1_S512x1)) (mulf (extractStridedSlice S512x1 ![0, 2] c slices_S512x4_o0_2_S512x1) (extractStridedSlice S512x1 ![0, 3] s slices_S512x4_o0_3_S512x1))⟩,
  ⟨S512x1, mulf (mulf (extractStridedSlice S512x1 ![0, 0] c slices_S512x4_o0_0_S512x1) (extractStridedSlice S512x1 ![0, 1] c slices_S512x4_o0_1_S512x1)) (mulf (extractStridedSlice S512x1 ![0, 2] s slices_S512x4_o0_2_S512x1) (extractStridedSlice S512x1 ![0, 3] c slices_S512x4_o0_3_S512x1))⟩,
  ⟨S512x1, mulf (mulf (extractStridedSlice S512x1 ![0, 0] c slices_S512x4_o0_0_S512x1) (extractStridedSlice S512x1 ![0, 1] c slices_S512x4_o0_1_S512x1)) (mulf (extractStridedSlice S512x1 ![0, 2] s slices_S512x4_o0_2_S512x1) (extractStridedSlice S512x1 ![0, 3] s slices_S512x4_o0_3_S512x1))⟩,
  ⟨S512x1, mulf (mulf (extractStridedSlice S512x1 ![0, 0] c slices_S512x4_o0_0_S512x1) (extractStridedSlice S512x1 ![0, 1] s slices_S512x4_o0_1_S512x1)) (mulf (extractStridedSlice S512x1 ![0, 2] c slices_S512x4_o0_2_S512x1) (extractStridedSlice S512x1 ![0, 3] c slices_S512x4_o0_3_S512x1))⟩,
  ⟨S512x1, mulf (mulf (extractStridedSlice S512x1 ![0, 0] c slices_S512x4_o0_0_S512x1) (extractStridedSlice S512x1 ![0, 1] s slices_S512x4_o0_1_S512x1)) (mulf (extractStridedSlice S512x1 ![0, 2] c slices_S512x4_o0_2_S512x1) (extractStridedSlice S512x1 ![0, 3] s slices_S512x4_o0_3_S512x1))⟩,
  ⟨S512x1, mulf (mulf (extractStridedSlice S512x1 ![0, 0] c slices_S512x4_o0_0_S512x1) (extractStridedSlice S512x1 ![0, 1] s slices_S512x4_o0_1_S512x1)) (mulf (extractStridedSlice S512x1 ![0, 2] s slices_S512x4_o0_2_S512x1) (extractStridedSlice S512x1 ![0, 3] c slices_S512x4_o0_3_S512x1))⟩,
  ⟨S512x1, mulf (mulf (extractStridedSlice S512x1 ![0, 0] c slices_S512x4_o0_0_S512x1) (extractStridedSlice S512x1 ![0, 1] s slices_S512x4_o0_1_S512x1)) (mulf (extractStridedSlice S512x1 ![0, 2] s slices_S512x4_o0_2_S512x1) (extractStridedSlice S512x1 ![0, 3] s slices_S512x4_o0_3_S512x1))⟩,
  ⟨S512x1, mulf (mulf (extractStridedSlice S512x1 ![0, 0] s slices_S512x4_o0_0_S512x1) (extractStridedSlice S512x1 ![0, 1] c slices_S512x4_o0_1_S512x1)) (mulf (extractStridedSlice S512x1 ![0, 2] c slices_S512x4_o0_2_S512x1) (extractStridedSlice S512x1 ![0, 3] c slices_S512x4_o0_3_S512x1))⟩,
  ⟨S512x1, mulf (mulf (extractStridedSlice S512x1 ![0, 0] s slices_S512x4_o0_0_S512x1) (extractStridedSlice S512x1 ![0, 1] c slices_S512x4_o0_1_S512x1)) (mulf (extractStridedSlice S512x1 ![0, 2] c slices_S512x4_o0_2_S512x1) (extractStridedSlice S512x1 ![0, 3] s slices_S512x4_o0_3_S512x1))⟩,
  ⟨S512x1, mulf (mulf (extractStridedSlice S512x1 ![0, 0] s slices_S512x4_o0_0_S512x1) (extractStridedSlice S512x1 ![0, 1] c slices_S512x4_o0_1_S512x1)) (mulf (extractStridedSlice S512x1 ![0, 2] s slices_S512x4_o0_2_S512x1) (extractStridedSlice S512x1 ![0, 3] c slices_S512x4_o0_3_S512x1))⟩,
  ⟨S512x1, mulf (mulf (extractStridedSlice S512x1 ![0, 0] s slices_S512x4_o0_0_S512x1) (extractStridedSlice S512x1 ![0, 1] c slices_S512x4_o0_1_S512x1)) (mulf (extractStridedSlice S512x1 ![0, 2] s slices_S512x4_o0_2_S512x1) (extractStridedSlice S512x1 ![0, 3] s slices_S512x4_o0_3_S512x1))⟩,
  ⟨S512x1, mulf (mulf (extractStridedSlice S512x1 ![0, 0] s slices_S512x4_o0_0_S512x1) (extractStridedSlice S512x1 ![0, 1] s slices_S512x4_o0_1_S512x1)) (mulf (extractStridedSlice S512x1 ![0, 2] c slices_S512x4_o0_2_S512x1) (extractStridedSlice S512x1 ![0, 3] c slices_S512x4_o0_3_S512x1))⟩,
  ⟨S512x1, mulf (mulf (extractStridedSlice S512x1 ![0, 0] s slices_S512x4_o0_0_S512x1) (extractStridedSlice S512x1 ![0, 1] s slices_S512x4_o0_1_S512x1)) (mulf (extractStridedSlice S512x1 ![0, 2] c slices_S512x4_o0_2_S512x1) (extractStridedSlice S512x1 ![0, 3] s slices_S512x4_o0_3_S512x1))⟩,
  ⟨S512x1, mulf (mulf (extractStridedSlice S512x1 ![0, 0] s slices_S512x4_o0_0_S512x1) (extractStridedSlice S512x1 ![0, 1] s slices_S512x4_o0_1_S512x1)) (mulf (extractStridedSlice S512x1 ![0, 2] s slices_S512x4_o0_2_S512x1) (extractStridedSlice S512x1 ![0, 3] c slices_S512x4_o0_3_S512x1))⟩,
  ⟨S512x1, mulf (mulf (extractStridedSlice S512x1 ![0, 0] s slices_S512x4_o0_0_S512x1) (extractStridedSlice S512x1 ![0, 1] s slices_S512x4_o0_1_S512x1)) (mulf (extractStridedSlice S512x1 ![0, 2] s slices_S512x4_o0_2_S512x1) (extractStridedSlice S512x1 ![0, 3] s slices_S512x4_o0_3_S512x1))⟩] concatenates_S512x1_S512x1_S512x1_S512x1_S512x1_S512x1_S512x1_S512x1_S512x1_S512x1_S512x1_S512x1_S512x1_S512x1_S512x1_S512x1_S512x16_d1

/-- The rows before the normalization, from the product states. -/
def preQ (x : FVec Ideal S512x1024 .f32) (g : FVec Ideal S512x16 .f32) (a b : Vec Ideal S16x16 .f32) (w : Vec Ideal S16x1024 .f32) : FVec Ideal S512x1024 .f32 :=
  addf x (matmul (φ₂ := .f32) dot_S512x16_S16x1024_S512x1024_1_0_0_1_n_n none (addf
    (mulf (matmul (φ₂ := .f32) dot_S512x16_S16x16_S512x16_1_1_0_0_n_n none g (a : FVec Ideal S16x16 .f32) (constant S512x16 .f32 0x00000000#32)) (matmul (φ₂ := .f32) dot_S512x16_S16x16_S512x16_1_1_0_0_n_n none g (a : FVec Ideal S16x16 .f32) (constant S512x16 .f32 0x00000000#32)))
    (mulf (matmul (φ₂ := .f32) dot_S512x16_S16x16_S512x16_1_1_0_0_n_n none g (b : FVec Ideal S16x16 .f32) (constant S512x16 .f32 0x00000000#32)) (matmul (φ₂ := .f32) dot_S512x16_S16x16_S512x16_1_1_0_0_n_n none g (b : FVec Ideal S16x16 .f32) (constant S512x16 .f32 0x00000000#32)))) (w : FVec Ideal S16x1024 .f32)
    (constant S512x1024 .f32 0x00000000#32))

/-- Rows less their means. -/
def ctr (y : FVec Ideal S512x1024 .f32) : FVec Ideal S512x1024 .f32 :=
  subf y (broadcastTo S512x1024 (divf (shapeCast S512x1 (multiReduction .add [1] S512 y 0x00000000#32 reduces_S512x1024_S512 (.inl rfl) rfl) shapeCasts_S512_S512x1) (broadcast S512x1 (Scalar.ofBits .f32 0x44800000#32))) broadcasts_S512x1_S512x1024)

/-- The rows' variances, with the small number added. -/
def vrc (z : FVec Ideal S512x1024 .f32) : FVec Ideal S512x1 .f32 :=
  addf (divf (shapeCast S512x1 (multiReduction .add [1] S512 (mulf z z) 0x00000000#32 reduces_S512x1024_S512 (.inl rfl) rfl) shapeCasts_S512_S512x1) (broadcast S512x1 (Scalar.ofBits .f32 0x44800000#32))) (broadcast S512x1 (Scalar.ofBits .f32 0x3727C5AC#32))

set_option maxHeartbeats 2000000 in
theorem outQ_form (x0 : Vec Ideal S1x512x1024 .f32) (x5 : Vec Ideal S1024x4 .bf16) (x6 : Vec Ideal S1x4 .f32) (a b : Vec Ideal S16x16 .f32) (w : Vec Ideal S16x1024 .f32) (x12 x13 : Vec Ideal S1x1024 .f32) :
    outQ x0 x5 x6 a b w x12 x13 =
      k0_pay4 (ctr (preQ (k0_pay2 x0) (mags (k0_pay43 (k0_pay2 x0) x5 x6) (k0_pay44 (k0_pay2 x0) x5 x6)) a b w))
        (vrc (ctr (preQ (k0_pay2 x0) (mags (k0_pay43 (k0_pay2 x0) x5 x6) (k0_pay44 (k0_pay2 x0) x5 x6)) a b w))) x12 x13 := rfl

set_option maxHeartbeats 2000000 in
theorem norm_at (y : FVec Ideal S512x1024 .f32) (x12 x13 : Vec Ideal S1x1024 .f32) (r : Fin 512) (d : Fin 1024) :
    k0_pay4 (ctr y) (vrc (ctr y)) x12 x13 (ix3 0 r d) = Row.lnorm (fun d => y (ix2 r d)) (x12 (ix2 0 d)) (x13 (ix2 0 d)) d := by
  unfold k0_pay4 vrc ctr Row.lnorm
  pointwise

theorem preQ_at (x0 : Vec Ideal S1x512x1024 .f32) (g : FVec Ideal S512x16 .f32) (a b : Vec Ideal S16x16 .f32) (w : Vec Ideal S16x1024 .f32) (r : Fin 512) (d : Fin 1024) :
    preQ (k0_pay2 x0) g a b w (ix2 r d) = x0 (ix3 0 r d) + ∑ k, ((∑ j, g (ix2 r j) * a (ix2 k j)) * (∑ j, g (ix2 r j) * a (ix2 k j))
      + (∑ j, g (ix2 r j) * b (ix2 k j)) * (∑ j, g (ix2 r j) * b (ix2 k j))) * w (ix2 k d) := by
  unfold preQ k0_pay2
  pointwise

/-- The factor of wire `w` in the product with the number `k`. -/
def fac (c s : Fin 4 → EReal) (w : Fin 4) (j : Fin 2) : EReal := if j = 0 then c w else s w

/-- The column of the product with the number `k`. -/
def col (c s : FVec Ideal S512x4 .f32) (k : Fin 16) : FVec Ideal S512x1 .f32 :=
  mulf (mulf (if k.val / 2 / 2 / 2 = 0 then extractStridedSlice S512x1 ![0, 0] c slices_S512x4_o0_0_S512x1 else extractStridedSlice S512x1 ![0, 0] s slices_S512x4_o0_0_S512x1) (if k.val / 2 / 2 % 2 = 0 then extractStridedSlice S512x1 ![0, 1] c slices_S512x4_o0_1_S512x1 else extractStridedSlice S512x1 ![0, 1] s slices_S512x4_o0_1_S512x1))
    (mulf (if k.val / 2 % 2 = 0 then extractStridedSlice S512x1 ![0, 2] c slices_S512x4_o0_2_S512x1 else extractStridedSlice S512x1 ![0, 2] s slices_S512x4_o0_2_S512x1) (if k.val % 2 = 0 then extractStridedSlice S512x1 ![0, 3] c slices_S512x4_o0_3_S512x1 else extractStridedSlice S512x1 ![0, 3] s slices_S512x4_o0_3_S512x1))

theorem cat_cols : Shape.Concatenates (List.map (fun x => x.fst) (List.ofFn fun n : Fin 16 => (⟨S512x1, fun _ => ()⟩ : (s : Shape) × (s.Idx → Unit)))) S512x16 1 :=
  concatenates_S512x1_S512x1_S512x1_S512x1_S512x1_S512x1_S512x1_S512x1_S512x1_S512x1_S512x1_S512x1_S512x1_S512x1_S512x1_S512x1_S512x16_d1

theorem mags_cols (c s : FVec Ideal S512x4 .f32) : mags c s = concatenate S512x16 1 (List.ofFn fun k => (⟨S512x1, col c s k⟩ : (s : Shape) × (s.Idx → Ideal .f32))) cat_cols := rfl

theorem mags_at (c s : FVec Ideal S512x4 .f32) (r : Fin 512) (k : Fin 16) : mags c s (ix2 r k) =
    (fac (fun w => c (ix2 r w)) (fun w => s (ix2 r w)) 0 ⟨k.val / 2 / 2 / 2, by omega⟩ * fac (fun w => c (ix2 r w)) (fun w => s (ix2 r w)) 1 ⟨k.val / 2 / 2 % 2, by omega⟩)
      * (fac (fun w => c (ix2 r w)) (fun w => s (ix2 r w)) 2 ⟨k.val / 2 % 2, by omega⟩ * fac (fun w => c (ix2 r w)) (fun w => s (ix2 r w)) 3 ⟨k.val % 2, by omega⟩) := by
  have hc : ∀ (k : Fin 16) (y : Fin 1), col c s k (ix2 r y) = (fac (fun w => c (ix2 r w)) (fun w => s (ix2 r w)) 0 ⟨k.val / 2 / 2 / 2, by omega⟩ * fac (fun w => c (ix2 r w)) (fun w => s (ix2 r w)) 1 ⟨k.val / 2 / 2 % 2, by omega⟩)
      * (fac (fun w => c (ix2 r w)) (fun w => s (ix2 r w)) 2 ⟨k.val / 2 % 2, by omega⟩ * fac (fun w => c (ix2 r w)) (fun w => s (ix2 r w)) 3 ⟨k.val % 2, by omega⟩) := fun k y => by
    unfold col fac
    simp only [Fin.ext_iff, Fin.val_zero]
    obtain rfl : y = 0 := Subsingleton.elim _ _
    split_ifs <;> pointwise
  rw [mags_cols, concatenate_ofFn_unit_apply' 1 (fun k => col c s k) cat_cols rfl (ix2 r k)]
  refine Eq.trans (congrArg (col c s k) ?_) (hc k 0)
  funext a
  match a with
  | 0 => rfl
  | 1 => rfl

/-- The half angle of a wire, before the cosine and the sine. -/
def khalf (x : Fin 1024 → EReal) (W : Fin 1024 → EReal) (b : EReal) : EReal :=
  Ideal.logistic (min (Ideal.ofBits FTy.f32 1092616192#32) (max (Ideal.ofBits FTy.f32 3240099840#32) (∑ k, x k * W k + b)))
    * Ideal.ofBits FTy.f32 1070141403#32

theorem ang_at (x0 : Vec Ideal S1x512x1024 .f32) (x5 : Vec Ideal S1024x4 .bf16) (x6 : Vec Ideal S1x4 .f32) (r : Fin 512) (w : Fin 4) :
    k0_pay42 (k0_pay2 x0) x5 x6 (ix2 r w) = khalf (fun k => x0 (ix3 0 r k)) (fun k => x5 (ix2 k w)) (x6 (ix2 0 w)) := by
  unfold k0_pay42 k0_pay2 khalf
  pointwise

theorem cos_at (x0 : Vec Ideal S1x512x1024 .f32) (x5 : Vec Ideal S1024x4 .bf16) (x6 : Vec Ideal S1x4 .f32) (r : Fin 512) (w : Fin 4) :
    k0_pay43 (k0_pay2 x0) x5 x6 (ix2 r w) = Ideal.cos (khalf (fun k => x0 (ix3 0 r k)) (fun k => x5 (ix2 k w)) (x6 (ix2 0 w))) :=
  congrArg Ideal.cos (ang_at x0 x5 x6 r w)

theorem sin_at (x0 : Vec Ideal S1x512x1024 .f32) (x5 : Vec Ideal S1024x4 .bf16) (x6 : Vec Ideal S1x4 .f32) (r : Fin 512) (w : Fin 4) :
    k0_pay44 (k0_pay2 x0) x5 x6 (ix2 r w) = Ideal.sin (khalf (fun k => x0 (ix3 0 r k)) (fun k => x5 (ix2 k w)) (x6 (ix2 0 w))) :=
  congrArg Ideal.sin (ang_at x0 x5 x6 r w)

/-- The folded up-projection, -/
theorem upW_at (x9 : Vec Ideal S8x1024 .f32) (x10 : Vec Ideal S1x1024 .f32) (x11 : Vec Ideal S1x1 .f32) (x17 : Vec Ideal S16x8 .f32) (k : Fin 16) (d : Fin 1024) :
    upW x9 x10 x11 x17 (ix2 k d) = (∑ x, x17 (ix2 k x) * x9 (ix2 x d) + x10 (ix2 0 d)) * x11 (ix2 0 0) := by
  unfold upW
  unfold_payloads
  pointwise

end Cert.KernelIdeal.Hand
-- ==== Proof.CircuitSpec.lean ====
/- The circuit's arithmetic: pairs of extended reals that are the two parts of a complex number, the layers'
   matrices, and the state's norm. -/
module
public import Idealize.ShloMosaic.PureOps.Ideal
public import Idealize.ShloMosaic.PureOps.Ideal.Laws
public import Idealize.ShloMosaic.Lib.Pointwise
public import Mathlib.Data.Complex.Basic
public import Mathlib.Data.Complex.BigOperators
public import Mathlib.LinearAlgebra.Matrix.ConjTranspose
public import proofs.«01_k».proof.Proof.RowSpec
public import Mathlib.Analysis.SpecialFunctions.Trigonometric.Basic
@[expose] public section
noncomputable section
namespace Cert.Circuit
open Idealize.ShloMosaic

/-- Two extended reals are the real and the imaginary part of a complex number. -/
structure Rep (r i : EReal) (z : ℂ) : Prop where
  re : r = ((z.re : ℝ) : EReal)
  im : i = ((z.im : ℝ) : EReal)

theorem Rep.mul {a b c d : EReal} {z w : ℂ} (h : Rep a b z) (k : Rep c d w) : Rep (a * c - b * d) (a * d + b * c) (z * w) := by
  constructor
  · rw [h.re, h.im, k.re, k.im, Complex.mul_re]; norm_cast
  · rw [h.re, h.im, k.re, k.im, Complex.mul_im]; norm_cast

theorem coe_sum {ι : Type*} [Fintype ι] (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

theorem Rep.dot {n : ℕ} {a b c d : Fin n → EReal} {z w : Fin n → ℂ} (h : ∀ k, Rep (a k) (b k) (z k)) (k : ∀ k, Rep (c k) (d k) (w k)) :
    Rep (∑ k, a k * c k - ∑ k, b k * d k) (∑ k, a k * d k + ∑ k, b k * c k) (∑ k, z k * w k) := by
  constructor
  · simp only [fun j => (h j).re, fun j => (h j).im, fun j => (k j).re, fun j => (k j).im, Complex.re_sum, Complex.mul_re, Finset.sum_sub_distrib,
      EReal.coe_sub, coe_sum, EReal.coe_mul]
  · simp only [fun j => (h j).re, fun j => (h j).im, fun j => (k j).re, fun j => (k j).im, Complex.im_sum, Complex.mul_im, Finset.sum_add_distrib,
      EReal.coe_add, coe_sum, EReal.coe_mul]

theorem Rep.rdot {n : ℕ} {a b c : Fin n → EReal} {z : Fin n → ℂ} {p : Fin n → ℝ} (h : ∀ k, Rep (a k) (b k) (z k)) (k : ∀ k, c k = ((p k : ℝ) : EReal)) :
    Rep (∑ k, a k * c k) (∑ k, b k * c k) (∑ k, z k * (p k : ℂ)) := by
  constructor
  · simp only [fun j => (h j).re, k, Complex.re_sum, Complex.re_mul_ofReal, coe_sum, EReal.coe_mul]
  · simp only [fun j => (h j).im, k, Complex.im_sum, Complex.im_mul_ofReal, coe_sum, EReal.coe_mul]

theorem Rep.ldot {n : ℕ} {a b c : Fin n → EReal} {z : Fin n → ℂ} {p : Fin n → ℝ} (k : ∀ k, c k = ((p k : ℝ) : EReal)) (h : ∀ k, Rep (a k) (b k) (z k)) :
    Rep (∑ k, c k * a k) (∑ k, c k * b k) (∑ k, (p k : ℂ) * z k) := by
  constructor
  · simp only [fun j => (h j).re, k, Complex.re_sum, Complex.re_ofReal_mul, coe_sum, EReal.coe_mul]
  · simp only [fun j => (h j).im, k, Complex.im_sum, Complex.im_ofReal_mul, coe_sum, EReal.coe_mul]

theorem Rep.norm {a b : EReal} {z : ℂ} (h : Rep a b z) : a * a + b * b = ((Complex.normSq z : ℝ) : EReal) := by
  rw [h.re, h.im, Complex.normSq_apply]; norm_cast

/-- The bit of the state's number that belongs to a wire. -/
def bit (w : Fin 4) (k : Fin 16) : Fin 2 :=
  ![⟨k.val / 2 / 2 / 2, by omega⟩, ⟨k.val / 2 / 2 % 2, by omega⟩, ⟨k.val / 2 % 2, by omega⟩, ⟨k.val % 2, by omega⟩] w

/-- The Kronecker product of four single-wire matrices. -/
def kron (g : Fin 4 → Fin 2 → Fin 2 → ℂ) : Matrix (Fin 16) (Fin 16) ℂ := fun R C =>
  g 0 (bit 0 R) (bit 0 C) * g 1 (bit 1 R) (bit 1 C) * g 2 (bit 2 R) (bit 2 C) * g 3 (bit 3 R) (bit 3 C)

/-- The product state of four wires. -/
def prod (q : Fin 4 → Fin 2 → ℂ) (k : Fin 16) : ℂ := q 0 (bit 0 k) * q 1 (bit 1 k) * q 2 (bit 2 k) * q 3 (bit 3 k)

/-- A sum over sixteen states of products over the four wires is the product of the wires' sums. -/
theorem sum_bits (f : Fin 4 → Fin 2 → ℂ) : ∑ k : Fin 16, prod f k = (f 0 0 + f 0 1) * (f 1 0 + f 1 1) * (f 2 0 + f 2 1) * (f 3 0 + f 3 1) := by
  simp only [Fin.sum_univ_succ, prod, bit, Matrix.cons_val_zero, Matrix.cons_val_one, Matrix.cons_val, Fin.sum_univ_zero, Fin.val_succ, Fin.val_zero, Fin.isValue]
  norm_num
  ring

/-- The norm of a state, squared. -/
def nsq (v : Fin 16 → ℂ) : ℝ := ∑ k, Complex.normSq (v k)

theorem nsq_eq (v : Fin 16 → ℂ) : (nsq v : ℂ) = dotProduct (star v) v := by
  unfold nsq dotProduct
  push_cast
  exact Finset.sum_congr rfl fun k _ => by rw [Complex.normSq_eq_conj_mul_self]; rfl

theorem nsq_prod (q : Fin 4 → Fin 2 → ℂ) (h : ∀ w, Complex.normSq (q w 0) + Complex.normSq (q w 1) = 1) : nsq (prod q) = 1 := by
  have e : ((nsq (prod q) : ℝ) : ℂ) = ∑ k, prod (fun w j => (Complex.normSq (q w j) : ℂ)) k := by
    unfold nsq prod; push_cast
    exact Finset.sum_congr rfl fun k _ => by simp only [map_mul]; push_cast; rfl
  rw [sum_bits] at e
  have h' : ∀ w, (Complex.normSq (q w 0) : ℂ) + (Complex.normSq (q w 1) : ℂ) = 1 := fun w => by exact_mod_cast congrArg (fun x : ℝ => (x : ℂ)) (h w)
  simp only [h', one_mul] at e
  exact_mod_cast e

/-- The Kronecker product of unitary matrices is unitary. -/
theorem kron_unitary (g : Fin 4 → Fin 2 → Fin 2 → ℂ)
    (h : ∀ w a b, star (g w 0 a) * g w 0 b + star (g w 1 a) * g w 1 b = if a = b then 1 else 0) :
    (kron g).conjTranspose * kron g = 1 := by
  ext C D
  have e : ((kron g).conjTranspose * kron g) C D = ∑ R, prod (fun w j => star (g w j (bit w C)) * g w j (bit w D)) R := by
    rw [Matrix.mul_apply]
    refine Finset.sum_congr rfl fun R _ => ?_
    rw [Matrix.conjTranspose_apply]
    unfold kron prod
    simp only [star_mul']
    ring
  rw [e, sum_bits]
  simp only [h]
  rw [Matrix.one_apply]
  simp only [bit, Matrix.cons_val_zero, Matrix.cons_val_one, Matrix.cons_val, Fin.mk.injEq, Fin.ext_iff]
  by_cases q : C.val = D.val
  · simp [q]
  · rw [if_neg q]
    by_cases q0 : C.val / 2 / 2 / 2 = D.val / 2 / 2 / 2
    · by_cases q1 : C.val / 2 / 2 % 2 = D.val / 2 / 2 % 2
      · by_cases q2 : C.val / 2 % 2 = D.val / 2 % 2
        · rw [if_neg (show ¬ C.val % 2 = D.val % 2 by omega), mul_zero]
        · rw [if_neg q2, mul_zero, zero_mul]
      · rw [if_neg q1, mul_zero, zero_mul, zero_mul]
    · rw [if_neg q0, zero_mul, zero_mul, zero_mul]
/-- One wire's state after the encoding rotation by twice the angle `a`. -/
def ket (a : ℝ) (j : Fin 2) : ℂ := if j = 0 then ⟨Real.cos a, 0⟩ else ⟨0, -Real.sin a⟩

/-- The general single-wire rotation. -/
def gate (p t o : ℝ) (i j : Fin 2) : ℂ :=
  if i = 0 then
    if j = 0 then ⟨Real.cos (t * (1 / 2)) * Real.cos ((p + o) * (1 / 2)), -Real.cos (t * (1 / 2)) * Real.sin ((p + o) * (1 / 2))⟩
    else ⟨-Real.sin (t * (1 / 2)) * Real.cos ((p - o) * (1 / 2)), -Real.sin (t * (1 / 2)) * Real.sin ((p - o) * (1 / 2))⟩
  else
    if j = 0 then ⟨Real.sin (t * (1 / 2)) * Real.cos ((p - o) * (1 / 2)), -Real.sin (t * (1 / 2)) * Real.sin ((p - o) * (1 / 2))⟩
    else ⟨Real.cos (t * (1 / 2)) * Real.cos ((p + o) * (1 / 2)), Real.cos (t * (1 / 2)) * Real.sin ((p + o) * (1 / 2))⟩

theorem ket_norm (a : ℝ) : Complex.normSq (ket a 0) + Complex.normSq (ket a 1) = 1 := by
  have h := Real.cos_sq_add_sin_sq a
  simp only [ket, Complex.normSq_apply, if_true, one_ne_zero, if_false]
  linarith

theorem gate_unitary (p t o : ℝ) (a b : Fin 2) : star (gate p t o 0 a) * gate p t o 0 b + star (gate p t o 1 a) * gate p t o 1 b = if a = b then 1 else 0 := by
  have h := Real.cos_sq_add_sin_sq (t * (1 / 2))
  have hA := Real.cos_sq_add_sin_sq ((p + o) * (1 / 2))
  have hB := Real.cos_sq_add_sin_sq ((p - o) * (1 / 2))
  unfold gate
  generalize Real.cos (t * (1 / 2)) = c at *
  generalize Real.sin (t * (1 / 2)) = s at *
  generalize Real.cos ((p + o) * (1 / 2)) = ca at *
  generalize Real.sin ((p + o) * (1 / 2)) = sa at *
  generalize Real.cos ((p - o) * (1 / 2)) = cb at *
  generalize Real.sin ((p - o) * (1 / 2)) = sb at *
  have hc : c ^ 2 * (ca ^ 2 + sa ^ 2) + s ^ 2 * (cb ^ 2 + sb ^ 2) = 1 := by rw [hA, hB]; linarith
  fin_cases a <;> fin_cases b <;> apply Complex.ext <;> simp <;> nlinarith [hc]

/-- A layer's rotations as one matrix. -/
def lay (θ : Fin 4 → Fin 3 → ℝ) : Matrix (Fin 16) (Fin 16) ℂ := kron fun w => gate (θ w 0) (θ w 1) (θ w 2)

theorem lay_unitary (θ : Fin 4 → Fin 3 → ℝ) : (lay θ).conjTranspose * lay θ = 1 := kron_unitary _ fun _ => gate_unitary _ _ _

/-- Where each state comes from under the first layer's ring of controlled flips, and under the second's. -/
def from0 : Fin 16 → Fin 16 := ![0, 13, 3, 14, 6, 11, 5, 8, 12, 1, 15, 2, 10, 7, 9, 4]
def from1 : Fin 16 → Fin 16 := ![0, 4, 8, 12, 5, 1, 13, 9, 10, 14, 2, 6, 15, 11, 7, 3]

theorem from0_bij : Function.Bijective from0 := by decide +kernel
theorem from1_bij : Function.Bijective from1 := by decide +kernel

/-- The matrix of such a ring. -/
def pm (s : Fin 16 → Fin 16) (R C : Fin 16) : ℝ := if C = s R then 1 else 0

/-- A layer: the rotations, then the ring. -/
def step (K : Matrix (Fin 16) (Fin 16) ℂ) (s : Fin 16 → Fin 16) (v : Fin 16 → ℂ) (k : Fin 16) : ℂ := ∑ x, (∑ y, v y * K x y) * (pm s k x : ℂ)

theorem step_eq (K : Matrix (Fin 16) (Fin 16) ℂ) (s : Fin 16 → Fin 16) (v : Fin 16 → ℂ) (k : Fin 16) : step K s v k = ∑ y, v y * K (s k) y := by
  unfold step pm
  rw [Finset.sum_eq_single (s k) (fun x _ hx => by rw [if_neg hx, Complex.ofReal_zero, mul_zero]) (fun h => absurd (Finset.mem_univ _) h), if_pos rfl, Complex.ofReal_one, mul_one]

theorem nsq_step (K : Matrix (Fin 16) (Fin 16) ℂ) (hK : K.conjTranspose * K = 1) (s : Fin 16 → Fin 16) (hs : Function.Bijective s) (v : Fin 16 → ℂ) : nsq (step K s v) = nsq v := by
  have h1 : nsq (step K s v) = nsq (K.mulVec v) := by
    unfold nsq
    rw [← hs.sum_comp fun k => Complex.normSq (K.mulVec v k)]
    refine Finset.sum_congr rfl fun k _ => ?_
    rw [step_eq]
    refine congrArg Complex.normSq ?_
    unfold Matrix.mulVec dotProduct
    exact Finset.sum_congr rfl fun y _ => mul_comm _ _
  have h2 : ((nsq (K.mulVec v) : ℝ) : ℂ) = ((nsq v : ℝ) : ℂ) := by
    rw [nsq_eq, nsq_eq, Matrix.star_mulVec, Matrix.dotProduct_mulVec, Matrix.vecMul_vecMul, hK, Matrix.vecMul_one]
  rw [h1]
  exact_mod_cast h2

/-- The circuit's final state. -/
def final (a : Fin 4 → ℝ) (θ : Fin 2 → Fin 4 → Fin 3 → ℝ) : Fin 16 → ℂ :=
  step (lay (θ 1)) from1 (step (lay (θ 0)) from0 (prod fun w => ket (a w)))

theorem final_norm (a : Fin 4 → ℝ) (θ : Fin 2 → Fin 4 → Fin 3 → ℝ) : ∑ k, Complex.normSq (final a θ k) = 1 :=
  (nsq_step _ (lay_unitary _) _ from1_bij _).trans ((nsq_step _ (lay_unitary _) _ from0_bij _).trans (nsq_prod _ fun _ => ket_norm _))

/-- The two layers as one matrix. -/
def both (K L : Matrix (Fin 16) (Fin 16) ℂ) (s u : Fin 16 → Fin 16) (R C : Fin 16) : ℂ :=
  ∑ x, (pm u R x : ℂ) * ∑ y, L x y * ∑ z, (pm s y z : ℂ) * K z C

theorem both_eq (K L : Matrix (Fin 16) (Fin 16) ℂ) (s u : Fin 16 → Fin 16) (R C : Fin 16) : both K L s u R C = ∑ y, L (u R) y * K (s y) C := by
  have hc : ∀ (s : Fin 16 → Fin 16) (f : Fin 16 → ℂ) (k : Fin 16), ∑ x, (pm s k x : ℂ) * f x = f (s k) := fun s f k => by
    unfold pm
    rw [Finset.sum_eq_single (s k) (fun x _ hx => by rw [if_neg hx, Complex.ofReal_zero, zero_mul]) (fun h => absurd (Finset.mem_univ _) h), if_pos rfl, Complex.ofReal_one, one_mul]
  unfold both
  rw [hc u (fun x => ∑ y, L x y * ∑ z, (pm s y z : ℂ) * K z C)]
  exact Finset.sum_congr rfl fun y _ => by rw [hc s (fun z => K z C)]

theorem step_step (K L : Matrix (Fin 16) (Fin 16) ℂ) (s u : Fin 16 → Fin 16) (v : Fin 16 → ℂ) (k : Fin 16) :
    step L u (step K s v) k = ∑ j, v j * both K L s u k j := by
  rw [step_eq]
  simp only [step_eq, both_eq, Finset.sum_mul, Finset.mul_sum]
  rw [Finset.sum_comm]
  exact Finset.sum_congr rfl fun j _ => Finset.sum_congr rfl fun y _ => by ring

/-- The phase and the magnitude of a wire's state, and of a product state. -/
def ph1 (j : Fin 2) : ℂ := if j = 0 then 1 else ⟨0, -1⟩
def mag1 (a : ℝ) (j : Fin 2) : ℝ := if j = 0 then Real.cos a else Real.sin a
def ph (k : Fin 16) : ℂ := prod (fun _ => ph1) k
def mag (a : Fin 4 → ℝ) (k : Fin 16) : ℝ := mag1 (a 0) (bit 0 k) * mag1 (a 1) (bit 1 k) * (mag1 (a 2) (bit 2 k) * mag1 (a 3) (bit 3 k))

theorem ket_eq (a : ℝ) (j : Fin 2) : ket a j = ph1 j * (mag1 a j : ℂ) := by
  unfold ket ph1 mag1
  split_ifs <;> apply Complex.ext <;> simp [-Complex.ofReal_cos, -Complex.ofReal_sin]

theorem prod_ket (a : Fin 4 → ℝ) (k : Fin 16) : prod (fun w => ket (a w)) k = ph k * (mag a k : ℂ) := by
  unfold ph mag prod
  simp only [ket_eq]
  push_cast
  ring

theorem final_eq (a : Fin 4 → ℝ) (θ : Fin 2 → Fin 4 → Fin 3 → ℝ) (k : Fin 16) :
    final a θ k = ∑ j, (mag a j : ℂ) * (both (lay (θ 0)) (lay (θ 1)) from0 from1 k j * ph j) := by
  unfold final
  rw [step_step]
  exact Finset.sum_congr rfl fun j _ => by rw [prod_ket]; ring

/-- How many wires of the state carry a one. -/
def ones (k : Fin 16) : ℕ := (bit 0 k).val + (bit 1 k).val + (bit 2 k).val + (bit 3 k).val

theorem ph_ones (k : Fin 16) : ph k = (⟨0, -1⟩ : ℂ) ^ ones k := by
  have h : ∀ j : Fin 2, ph1 j = (⟨0, -1⟩ : ℂ) ^ j.val := fun j => by fin_cases j <;> simp [ph1]
  unfold ph prod ones
  simp only [h, ← pow_add]

/-- Averages against the probabilities: folding the last affine map into the table changes nothing, as the
    probabilities add up to one. -/
theorem fold_up {n : Fin 16 → ℝ} (hn : ∑ k, n k = 1) (Z : Fin 16 → Fin 4 → ℝ) (W : Fin 4 → ℝ) (b s : ℝ) :
    ∑ k, n k * ((∑ w, Z k w * W w + b) * s) = (∑ w, (∑ k, n k * Z k w) * W w + b) * s := by
  have e : ∀ k, n k * ((∑ w, Z k w * W w + b) * s) = (∑ w, n k * Z k w * W w) * s + n k * (b * s) := fun k => by
    simp only [mul_assoc, ← Finset.mul_sum]; ring
  simp only [e, Finset.sum_add_distrib, ← Finset.sum_mul, hn]
  rw [Finset.sum_comm]
  simp only [← Finset.sum_mul]
  ring

theorem sum_mul_nonneg {ι : Type*} (S : Finset ι) (n : ι → ℝ) (h : ∀ k, 0 ≤ n k) (c : EReal) : ∑ k ∈ S, (n k : EReal) * c = ((∑ k ∈ S, n k : ℝ) : EReal) * c := by
  classical
  induction S using Finset.induction_on with
  | empty => simp
  | insert a S ha ih =>
    rw [Finset.sum_insert ha, Finset.sum_insert ha, EReal.coe_add, ih,
      EReal.right_distrib_of_nonneg (by exact_mod_cast h a) (by exact_mod_cast Finset.sum_nonneg fun k _ => h k)]

/-- The same over the extended reals; the bias may be infinite. -/
theorem fold_ext {n : Fin 16 → ℝ} (hn : ∑ k, n k = 1) (h0 : ∀ k, 0 ≤ n k) (Z : Fin 16 → Fin 4 → ℝ) (W : Fin 4 → ℝ) (b : EReal) (s : ℝ) :
    ∑ k, (n k : EReal) * ((∑ w, (Z k w : EReal) * (W w : EReal) + b) * (s : EReal))
      = (∑ w, (∑ k, (n k : EReal) * (Z k w : EReal)) * (W w : EReal) + b) * (s : EReal) := by
  simp only [← EReal.coe_mul, ← coe_sum]
  induction b with
  | coe b =>
    simp only [← EReal.coe_mul, ← EReal.coe_add, ← coe_sum]
    exact congrArg _ (fold_up hn Z W b s)
  | bot =>
    simp only [EReal.add_bot]
    rw [sum_mul_nonneg _ _ h0, hn, EReal.coe_one, one_mul]
  | top =>
    simp only [EReal.coe_add_top]
    rw [sum_mul_nonneg _ _ h0, hn, EReal.coe_one, one_mul]

/-- The sign of a wire's readout. -/
def sgn (k : Fin 16) (w : Fin 4) : ℝ := if bit w k = 0 then 1 else -1

/-- The sum over the padded readouts is the sum over the wires. -/
theorem sum_padded {f g : Fin 8 → EReal} {Z W : Fin 4 → ℝ} (hf : ∀ w : Fin 4, f ⟨w.val, by omega⟩ = ((Z w : ℝ) : EReal)) (hg : ∀ w : Fin 4, g ⟨w.val, by omega⟩ = ((W w : ℝ) : EReal))
    (hf0 : ∀ w : Fin 4, f ⟨4 + w.val, by omega⟩ = ((0 : ℝ) : EReal)) : ∑ x, f x * g x = ∑ w, (Z w : EReal) * (W w : EReal) := by
  have h := Fin.sum_univ_add (a := 4) (b := 4) fun x => f x * g x
  refine h.trans ?_
  have h1 : ∑ i : Fin 4, f (Fin.castAdd 4 i) * g (Fin.castAdd 4 i) = ∑ w, (Z w : EReal) * (W w : EReal) := Finset.sum_congr rfl fun w _ => congrArg₂ (· * ·) (hf w) (hg w)
  have h2 : ∑ i : Fin 4, f (Fin.natAdd 4 i) * g (Fin.natAdd 4 i) = 0 := Finset.sum_eq_zero fun w _ => by
    rw [show f (Fin.natAdd 4 w) = ((0 : ℝ) : EReal) from hf0 w, EReal.coe_zero, zero_mul]
  rw [h1, h2, add_zero]

end Cert.Circuit
-- ==== Proof.KerCirc.lean ====
/- The kernel's circuit: the host's gate stacks, the tables, and the matrix that the first grid point builds of them. -/
module
public import proofs.«01_k».proof.Proof.IdealBlocks
public import proofs.«01_k».proof.Proof.IdealCirc
public import proofs.«01_k».proof.Proof.CircuitSpec
public import Idealize.ShloMosaic.Lib.StableHlo.ReadAt
@[expose] public section
set_option maxRecDepth 16384
noncomputable section
namespace Cert.KernelIdeal.Hand
open Idealize.ShloMosaic Idealize.ShloMosaic.TcCoe Idealize.ShloMosaic.Tactic
open Cert.KernelIdeal.Gen Cert.Circuit
variable (m : (ℓ : Loc nD τ sig) → Buf (Elt Ideal) ℓ)

/-- A lifted gate's entry: real part, -/
def liftRe (p t o : EReal) (L : Fin 2 → Fin 2 → EReal) : EReal :=
  Ideal.cos (t * Ideal.ofBits FTy.f32 1056964608#32) * Ideal.cos ((p + o) * Ideal.ofBits FTy.f32 1056964608#32) * L 0 0
    + -Ideal.sin (t * Ideal.ofBits FTy.f32 1056964608#32) * Ideal.cos ((p - o) * Ideal.ofBits FTy.f32 1056964608#32) * L 0 1
    + (Ideal.sin (t * Ideal.ofBits FTy.f32 1056964608#32) * Ideal.cos ((p - o) * Ideal.ofBits FTy.f32 1056964608#32) * L 1 0
      + Ideal.cos (t * Ideal.ofBits FTy.f32 1056964608#32) * Ideal.cos ((p + o) * Ideal.ofBits FTy.f32 1056964608#32) * L 1 1)

/-- and imaginary part. -/
def liftIm (p t o : EReal) (L : Fin 2 → Fin 2 → EReal) : EReal :=
  -Ideal.cos (t * Ideal.ofBits FTy.f32 1056964608#32) * Ideal.sin ((p + o) * Ideal.ofBits FTy.f32 1056964608#32) * L 0 0
    + -Ideal.sin (t * Ideal.ofBits FTy.f32 1056964608#32) * Ideal.sin ((p - o) * Ideal.ofBits FTy.f32 1056964608#32) * L 0 1
    + (-Ideal.sin (t * Ideal.ofBits FTy.f32 1056964608#32) * Ideal.sin ((p - o) * Ideal.ofBits FTy.f32 1056964608#32) * L 1 0
      + Ideal.cos (t * Ideal.ofBits FTy.f32 1056964608#32) * Ideal.sin ((p + o) * Ideal.ofBits FTy.f32 1056964608#32) * L 1 1)

theorem lift_gate (p t o : ℝ) (L : Fin 2 → Fin 2 → EReal) (i j : Fin 2) (hL : ∀ a b, L a b = (((if a = i ∧ b = j then 1 else 0 : ℝ)) : EReal)) :
    Rep (liftRe p t o L) (liftIm p t o L) (gate p t o i j) := by
  unfold liftRe liftIm
  rw [Row.half32, hL 0 0, hL 0 1, hL 1 0, hL 1 1]
  simp only [← EReal.coe_add, ← EReal.coe_sub, ← EReal.coe_mul, Ideal.cos_coe, Ideal.sin_coe, ← EReal.coe_neg]
  constructor
  · refine congrArg (fun r : ℝ => (r : EReal)) ?_
    fin_cases i <;> fin_cases j <;> simp [gate]
  · refine congrArg (fun r : ℝ => (r : EReal)) ?_
    fin_cases i <;> fin_cases j <;> simp [gate]

theorem V_Fr (c : Dev nD) (l : Fin 2) (w : Fin 4) (R C : Fin 16) : V m c main_v61 (ix3 ⟨4 * l.val + w.val, by omega⟩ R C) =
    liftRe (m ((c : Thread nD τ).loc main_arg10) (ix3 l w 0)) (m ((c : Thread nD τ).loc main_arg10) (ix3 l w 1)) (m ((c : Thread nD τ).loc main_arg10) (ix3 l w 2))
      (fun a b => Ideal.ofBits FTy.f32 (lit0 (S4x2x2x16x16.rowMajor (ix5 w a b R C)))) := by
  unfold V liftRe
  after_reads_at
  simp only [Fin.sum_univ_two, Fin.sum_univ_one]
  repeat after_reads_at

theorem V_Fi (c : Dev nD) (l : Fin 2) (w : Fin 4) (R C : Fin 16) : V m c main_v68 (ix3 ⟨4 * l.val + w.val, by omega⟩ R C) =
    liftIm (m ((c : Thread nD τ).loc main_arg10) (ix3 l w 0)) (m ((c : Thread nD τ).loc main_arg10) (ix3 l w 1)) (m ((c : Thread nD τ).loc main_arg10) (ix3 l w 2))
      (fun a b => Ideal.ofBits FTy.f32 (lit0 (S4x2x2x16x16.rowMajor (ix5 w a b R C)))) := by
  unfold V liftIm
  after_reads_at
  simp only [Fin.sum_univ_two, Fin.sum_univ_one]
  repeat after_reads_at

theorem lift_word : ∀ (w : Fin 4) (a b : Fin 2) (R C : Fin 16),
    lit0 (S4x2x2x16x16.rowMajor (ix5 w a b R C)) = if a = bit w R ∧ b = bit w C then 1065353216#32 else 0#32 := by
  decide +kernel

/-- Entry by entry, the host's stack of lifted gates. -/
theorem V_gate (c : Dev nD) (θ : Fin 2 → Fin 4 → Fin 3 → ℝ) (hθ : ∀ l w k, m ((c : Thread nD τ).loc main_arg10) (ix3 l w k) = ((θ l w k : ℝ) : EReal))
    (l : Fin 2) (w : Fin 4) (R C : Fin 16) :
    Rep (V m c main_v61 (ix3 ⟨4 * l.val + w.val, by omega⟩ R C)) (V m c main_v68 (ix3 ⟨4 * l.val + w.val, by omega⟩ R C))
      (gate (θ l w 0) (θ l w 1) (θ l w 2) (bit w R) (bit w C)) := by
  have h := lift_gate (θ l w 0) (θ l w 1) (θ l w 2) (fun a b => Ideal.ofBits FTy.f32 (lit0 (S4x2x2x16x16.rowMajor (ix5 w a b R C)))) (bit w R) (bit w C)
    (fun a b => by
      show Ideal.ofBits FTy.f32 (lit0 (S4x2x2x16x16.rowMajor (ix5 w a b R C))) = _
      rw [lift_word]
      split_ifs
      · exact Row.one32
      · exact Row.zero32)
  constructor
  · refine (V_Fr m c l w R C).trans ?_
    rw [hθ, hθ, hθ]
    exact h.re
  · refine (V_Fi m c l w R C).trans ?_
    rw [hθ, hθ, hθ]
    exact h.im

theorem word_ring0 : ∀ R C : Fin 16, lit1 (S16x16.rowMajor (ix2 R C)) = if C = from0 R then 1065353216#32 else 0#32 := by decide +kernel
theorem word_ring1 : ∀ R C : Fin 16, lit2 (S16x16.rowMajor (ix2 R C)) = if C = from1 R then 1065353216#32 else 0#32 := by decide +kernel

theorem V_ring0 (c : Dev nD) (R C : Fin 16) : V m c main_call0_cst (ix2 R C) = ((pm from0 R C : ℝ) : EReal) := by
  have h : V m c main_call0_cst (ix2 R C) = Ideal.ofBits FTy.f32 (lit1 (S16x16.rowMajor (ix2 R C))) := by
    unfold V
    after_reads_at
  rw [h, word_ring0]; unfold pm; split_ifs
  · exact Row.one32
  · exact Row.zero32
theorem V_ring1 (c : Dev nD) (R C : Fin 16) : V m c main_call0_cst_0 (ix2 R C) = ((pm from1 R C : ℝ) : EReal) := by
  have h : V m c main_call0_cst_0 (ix2 R C) = Ideal.ofBits FTy.f32 (lit2 (S16x16.rowMajor (ix2 R C))) := by
    unfold V
    after_reads_at
  rw [h, word_ring1]; unfold pm; split_ifs
  · exact Row.one32
  · exact Row.zero32

theorem V_ph (c : Dev nD) (k : Fin 2) (C : Fin 16) : V m c main_call0_cst_1 (ix2 k C) = Ideal.ofBits FTy.f32 (lit3 (S2x16.rowMajor (ix2 k C))) := by
  unfold V
  after_reads_at

theorem word_phase : ∀ C : Fin 16,
    (ones C = 0 ∧ lit3 (S2x16.rowMajor (ix2 0 C)) = 1065353216#32 ∧ (lit3 (S2x16.rowMajor (ix2 1 C)) = 0#32 ∨ lit3 (S2x16.rowMajor (ix2 1 C)) = 2147483648#32))
    ∨ (ones C = 1 ∧ (lit3 (S2x16.rowMajor (ix2 0 C)) = 0#32 ∨ lit3 (S2x16.rowMajor (ix2 0 C)) = 2147483648#32) ∧ lit3 (S2x16.rowMajor (ix2 1 C)) = 3212836864#32)
    ∨ (ones C = 2 ∧ lit3 (S2x16.rowMajor (ix2 0 C)) = 3212836864#32 ∧ (lit3 (S2x16.rowMajor (ix2 1 C)) = 0#32 ∨ lit3 (S2x16.rowMajor (ix2 1 C)) = 2147483648#32))
    ∨ (ones C = 3 ∧ (lit3 (S2x16.rowMajor (ix2 0 C)) = 0#32 ∨ lit3 (S2x16.rowMajor (ix2 0 C)) = 2147483648#32) ∧ lit3 (S2x16.rowMajor (ix2 1 C)) = 1065353216#32)
    ∨ (ones C = 4 ∧ lit3 (S2x16.rowMajor (ix2 0 C)) = 1065353216#32 ∧ (lit3 (S2x16.rowMajor (ix2 1 C)) = 0#32 ∨ lit3 (S2x16.rowMajor (ix2 1 C)) = 2147483648#32)) := by
  decide +kernel

/-- Both zeros are zero. -/
theorem zero_of {w : BitVec 32} (h : w = 0#32 ∨ w = 2147483648#32) : Ideal.ofBits FTy.f32 w = ((0 : ℝ) : EReal) := by
  rcases h with rfl | rfl
  · exact Row.zero32
  · exact Row.negzero32

/-- The table of phases. -/
theorem V_phase (c : Dev nD) (C : Fin 16) : Rep (V m c main_call0_cst_1 (ix2 0 C)) (V m c main_call0_cst_1 (ix2 1 C)) (ph C) := by
  have i2 : (⟨0, -1⟩ : ℂ) ^ 2 = -1 := by rw [sq]; apply Complex.ext <;> simp
  have hr := V_ph m c 0 C
  have hi := V_ph m c 1 C
  rw [ph_ones]
  rcases word_phase C with ⟨h, h0, h1⟩ | ⟨h, h0, h1⟩ | ⟨h, h0, h1⟩ | ⟨h, h0, h1⟩ | ⟨h, h0, h1⟩
  · rw [h0, Row.one32] at hr; rw [zero_of h1] at hi; rw [h, pow_zero]
    exact ⟨hr, hi⟩
  · rw [zero_of h0] at hr; rw [h1, Row.negone32] at hi; rw [h, pow_one]
    exact ⟨hr, hi⟩
  · rw [h0, Row.negone32] at hr; rw [zero_of h1] at hi; rw [h, i2]
    exact ⟨by rw [hr]; simp, by rw [hi]; simp⟩
  · rw [zero_of h0] at hr; rw [h1, Row.one32] at hi; rw [h, pow_succ, i2]
    exact ⟨by rw [hr]; simp, by rw [hi]; simp⟩
  · rw [h0, Row.one32] at hr; rw [zero_of h1] at hi; rw [h, show (4 : ℕ) = 2 + 2 from rfl, pow_add, i2]
    exact ⟨by rw [hr]; simp, by rw [hi]; simp⟩

theorem word_sgn : ∀ (k : Fin 16) (w : Fin 4), lit4 (S16x8.rowMajor (ix2 k ⟨w.val, by omega⟩)) = if bit w k = 0 then 1065353216#32 else 3212836864#32 := by decide +kernel
theorem word_pad : ∀ (k : Fin 16) (w : Fin 4), lit4 (S16x8.rowMajor (ix2 k ⟨4 + w.val, by omega⟩)) = 0#32 := by decide +kernel

theorem V_Z (c : Dev nD) (k : Fin 16) (w : Fin 8) : V m c main_call0_cst_2 (ix2 k w) = Ideal.ofBits FTy.f32 (lit4 (S16x8.rowMajor (ix2 k w))) := by
  unfold V
  after_reads_at
theorem V_sgn (c : Dev nD) (k : Fin 16) (w : Fin 4) : V m c main_call0_cst_2 (ix2 k ⟨w.val, by omega⟩) = ((sgn k w : ℝ) : EReal) := by
  rw [V_Z, word_sgn]; unfold sgn; split_ifs
  · exact Row.one32
  · exact Row.negone32
theorem V_pad (c : Dev nD) (k : Fin 16) (w : Fin 4) : V m c main_call0_cst_2 (ix2 k ⟨4 + w.val, by omega⟩) = ((0 : ℝ) : EReal) := by
  rw [V_Z, word_pad]; exact Row.zero32

section matrix
variable {x7 x8 : Vec Ideal S8x16x16 .f32} {x14 x15 : Vec Ideal S16x16 .f32} {x16 : Vec Ideal S2x16 .f32} {θ : Fin 2 → Fin 4 → Fin 3 → ℝ}
variable (hg : ∀ (l : Fin 2) (w : Fin 4) (R C : Fin 16), Rep (x7 (ix3 ⟨4 * l.val + w.val, by omega⟩ R C)) (x8 (ix3 ⟨4 * l.val + w.val, by omega⟩ R C)) (gate (θ l w 0) (θ l w 1) (θ l w 2) (bit w R) (bit w C)))
include hg

theorem lay0_rep (R C : Fin 16) : Rep (lay0r x7 x8 (ix2 R C)) (lay0i x7 x8 (ix2 R C)) (lay (θ 0) R C) := by
  have h : Rep _ _ (lay (θ 0) R C) := (((hg 0 0 R C).mul (hg 0 1 R C)).mul (hg 0 2 R C)).mul (hg 0 3 R C)
  constructor
  · refine Eq.trans ?_ h.re
    unfold lay0r slab
    unfold_payloads
    pointwise <;> rfl
  · refine Eq.trans ?_ h.im
    unfold lay0i slab
    unfold_payloads
    pointwise <;> rfl

theorem lay1_rep (R C : Fin 16) : Rep (lay1r x7 x8 (ix2 R C)) (lay1i x7 x8 (ix2 R C)) (lay (θ 1) R C) := by
  have h : Rep _ _ (lay (θ 1) R C) := (((hg 1 0 R C).mul (hg 1 1 R C)).mul (hg 1 2 R C)).mul (hg 1 3 R C)
  constructor
  · refine Eq.trans ?_ h.re
    unfold lay1r slab
    unfold_payloads
    pointwise <;> rfl
  · refine Eq.trans ?_ h.im
    unfold lay1i slab
    unfold_payloads
    pointwise <;> rfl

/-- The matrix that the first grid point builds: both layers, with the encoding's phases in its columns. -/
theorem circ_rep (h14 : ∀ R C, x14 (ix2 R C) = ((pm from0 R C : ℝ) : EReal)) (h15 : ∀ R C, x15 (ix2 R C) = ((pm from1 R C : ℝ) : EReal))
    (h16 : ∀ C, Rep (x16 (ix2 0 C)) (x16 (ix2 1 C)) (ph C)) (R C : Fin 16) :
    Rep (circA x7 x8 x14 x15 x16 (ix2 R C)) (circB x7 x8 x14 x15 x16 (ix2 R C)) (both (lay (θ 0)) (lay (θ 1)) from0 from1 R C * ph C) := by
  have h : Rep _ _ (both (lay (θ 0)) (lay (θ 1)) from0 from1 R C * ph C) :=
    Rep.mul (Rep.ldot (h15 R) fun x => Rep.dot (lay1_rep hg x) fun y => Rep.ldot (h14 y) fun z => lay0_rep hg z C) (h16 C)
  constructor
  · refine Eq.trans ?_ h.re
    unfold circA phase
    generalize lay0r x7 x8 = a
    generalize lay0i x7 x8 = b
    generalize lay1r x7 x8 = c
    generalize lay1i x7 x8 = d
    unfold_payloads
    pointwise <;> rfl
  · refine Eq.trans ?_ h.im
    unfold circB phase
    generalize lay0r x7 x8 = a
    generalize lay0i x7 x8 = b
    generalize lay1r x7 x8 = c
    generalize lay1i x7 x8 = d
    unfold_payloads
    pointwise <;> rfl
end matrix

end Cert.KernelIdeal.Hand
-- ==== Proof.RefCirc.lean ====
/- The reference's circuit: its state after the encoding and after each layer, and its branch's rows. -/
module
public import proofs.«01_k».proof.Proof.RefRow
public import proofs.«01_k».proof.Proof.CircuitSpec
@[expose] public section
set_option maxRecDepth 16384
noncomputable section
namespace Cert.ReferenceIdeal.Value
open Idealize.ShloMosaic Idealize.ShloMosaic.TcCoe Idealize.ShloMosaic.Tactic
open Cert.ReferenceIdeal Cert.ReferenceIdeal.Gen Cert.Circuit
variable (V0 : Valuation τ sig (Elt Ideal))

/-- The branch's row, from the two parts of the final state. -/
def rowQ (x : EReal) (p q : Fin 16 → EReal) (Z : Fin 16 → Fin 4 → EReal) (W : Fin 4 → EReal) (b s : EReal) : EReal :=
  x + (∑ w, (∑ k, (p k * p k + q k * q k) * Z k w) * W w + b) * s

/-- The readouts' affine map, token by token. -/
def refU (A B : FVec Ideal S8192x16 .f32) (W : FVec Ideal S4x1024 .f32) (u : FVec Ideal S1024 .f32) : FVec Ideal S8192x1024 .f32 :=
  addf (Host.dotGeneral (φ₂ := .f32) dot_S8192x4_S4x1024_S8192x1024_1_0_0_1_n_n none (Host.dotGeneral (φ₂ := .f32) dot_S8192x16_S16x4_S8192x4_1_0_0_1_n_n none (addf (mulf A A) (mulf B B)) ((fun i => FloatOps.ofBits .f32 (lit2 (S16x4.rowMajor i))))) W) (broadcastInDim S8192x1024 ![0, 1] bcast_S1x1024_S8192x1024_0_1 (broadcastInDim S1x1024 ![1] bcast_S1024_S1x1024_1 u))

theorem refU_at (A B : FVec Ideal S8192x16 .f32) (W : FVec Ideal S4x1024 .f32) (u : FVec Ideal S1024 .f32) (T : Fin 8192) (d : Fin 1024) :
    refU A B W u (ix2 T d) = ∑ w, (∑ k, (A (ix2 T k) * A (ix2 T k) + B (ix2 T k) * B (ix2 T k)) * Ideal.ofBits FTy.f32 (lit2 (S16x4.rowMajor (ix2 k w)))) * W (ix2 w d) + u (ix1 d) := by
  unfold refU
  pointwise

theorem resh_at (x : FVec Ideal S4x2048x1024 .f32) (U : FVec Ideal S8192x1024 .f32) (s : FVec Ideal S_ .f32) (b : Fin 4) (t : Fin 2048) (d : Fin 1024) :
    addf x (mulf (shapeCast S4x2048x1024 U shapeCasts_S8192x1024_S4x2048x1024) (broadcastInDim S4x2048x1024 ![] bcast_S_S4x2048x1024 (Host.absf s))) (ix3 b t d)
      = x (ix3 b t d) + U (ix2 ⟨b.val * 2048 + t.val, by omega⟩ d) * FloatOps.absf (s Idealize.ShloMosaic.ix0) := by
  pointwise

theorem refQ_form : refQ V0 = addf (V0 (Proc.devRef .tc main_arg0) : FVec Ideal S4x2048x1024 .f32)
    (mulf (shapeCast S4x2048x1024 (refU (res_main_v265 V0) (res_main_v266 V0) (V0 (Proc.devRef .tc main_arg8)) (V0 (Proc.devRef .tc main_arg9))) shapeCasts_S8192x1024_S4x2048x1024)
      (broadcastInDim S4x2048x1024 ![] bcast_S_S4x2048x1024 (Host.absf (V0 (Proc.devRef .tc main_arg11) : FVec Ideal S_ .f32)))) := by
  unfold refQ refU
  rfl

theorem refQ_at (b : Fin 4) (t : Fin 2048) (d : Fin 1024) : refQ V0 (ix3 b t d) =
    rowQ (V0 (Proc.devRef .tc main_arg0) (ix3 b t d)) (fun k => res_main_v265 V0 (ix2 ⟨b.val * 2048 + t.val, by omega⟩ k))
      (fun k => res_main_v266 V0 (ix2 ⟨b.val * 2048 + t.val, by omega⟩ k)) (fun k w => Ideal.ofBits FTy.f32 (lit2 (S16x4.rowMajor (ix2 k w))))
      (fun w => V0 (Proc.devRef .tc main_arg8) (ix2 w d)) (V0 (Proc.devRef .tc main_arg9) (ix1 d))
      (FloatOps.absf (F := Ideal) (φ := .f32) (V0 (Proc.devRef .tc main_arg11) Idealize.ShloMosaic.ix0)) := by
  refine (congrFun (refQ_form V0) _).trans ((resh_at _ _ _ b t d).trans ?_)
  rw [refU_at]
  rfl

/-- A wire's angle, before it is halved. -/
def ang (x W : Fin 1024 → EReal) (b : EReal) : EReal :=
  Ideal.div 1 (1 + Ideal.exp (-min (Ideal.ofBits FTy.f32 1092616192#32) (max (Ideal.ofBits FTy.f32 3240099840#32) (∑ k, x k * W k + b)))) * Ideal.ofBits FTy.f32 1078530011#32

theorem v30_at (b : Fin 4) (t : Fin 2048) (w : Fin 4) : res_main_v30 V0 (ix2 ⟨b.val * 2048 + t.val, by omega⟩ w) =
    ang (fun x => V0 (Proc.devRef .tc main_arg0) (ix3 b t x)) (fun x => V0 (Proc.devRef .tc main_arg6) (ix2 x w)) (V0 (Proc.devRef .tc main_arg7) (ix1 w)) := by
  unfold res_main_v30 ang
  clean_types
  pointwise
  rfl

variable {V0}

section state
variable {T : Fin 8192} {a : Fin 4 → ℝ} (ha : ∀ w, Ideal.div (res_main_v30 V0 (ix2 T w)) (Ideal.ofBits FTy.f32 1073741824#32) = ((a w : ℝ) : EReal))
include ha

theorem ket_at (w : Fin 4) (k : Fin 2) : Rep (res_main_v40 V0 (ix3 T w k)) (res_main_v44 V0 (ix3 T w k)) (ket (a w) k) := by
  have h := ha w
  unfold res_main_v40 res_main_v44 res_main_v37
  generalize res_main_v30 V0 = A at h
  constructor
  · unfold ket
    pointwise
    rw [h, Ideal.cos_coe]
    fin_cases k <;> simp [Row.zero32]
  · unfold ket
    pointwise
    rw [h, Ideal.sin_coe]
    fin_cases k <;> simp [Row.zero32]

theorem ket01_at (k : Fin 4) : Rep (res_main_v81 V0 (ix3 T k 0)) (res_main_v82 V0 (ix3 T k 0)) (ket (a 0) ⟨k.val / 2, by omega⟩ * ket (a 1) ⟨k.val % 2, by omega⟩) := by
  have h := (ket_at ha 0 ⟨k.val / 2, by omega⟩).mul (ket_at ha 1 ⟨k.val % 2, by omega⟩)
  unfold res_main_v81 res_main_v82 res_main_v61 res_main_v62 res_main_v63 res_main_v64
  generalize res_main_v40 V0 = A at h
  generalize res_main_v44 V0 = B at h
  constructor
  · refine Eq.trans ?_ h.re
    pointwise
  · refine Eq.trans ?_ h.im
    pointwise

theorem ket2_at (k : Fin 2) : Rep (res_main_v83 V0 (ix3 T 0 k)) (res_main_v84 V0 (ix3 T 0 k)) (ket (a 2) k) := by
  have h := ket_at ha 2 k
  unfold res_main_v83 res_main_v84
  generalize res_main_v40 V0 = A at h
  generalize res_main_v44 V0 = B at h
  constructor
  · refine Eq.trans ?_ h.re
    pointwise
  · refine Eq.trans ?_ h.im
    pointwise

/-- The state after the encoding is the wires' product. -/
theorem psi_at (k : Fin 16) : Rep (res_main_v119 V0 (ix2 T k)) (res_main_v120 V0 (ix2 T k)) (prod (fun w => ket (a w)) k) := by
  have h : Rep _ _ (prod (fun w => ket (a w)) k) := ((ket01_at ha ⟨k.val / 2 / 2, by omega⟩).mul (ket2_at ha ⟨k.val / 2 % 2, by omega⟩)).mul (ket_at ha 3 ⟨k.val % 2, by omega⟩)
  unfold res_main_v119 res_main_v120 res_main_v101 res_main_v102 res_main_v103 res_main_v104
  generalize res_main_v40 V0 = A at h
  generalize res_main_v44 V0 = B at h
  generalize res_main_v81 V0 = C at h
  generalize res_main_v82 V0 = D at h
  generalize res_main_v83 V0 = G at h
  generalize res_main_v84 V0 = H at h
  constructor
  · refine Eq.trans ?_ h.re
    pointwise
  · refine Eq.trans ?_ h.im
    pointwise
end state

section gates
variable {θ : Fin 2 → Fin 4 → Fin 3 → ℝ} (hθ : ∀ l w c, (V0 (Proc.devRef .tc main_arg10) (ix3 l w c) : EReal) = ((θ l w c : ℝ) : EReal))
include hθ

theorem phi_at (l : Fin 2) (w : Fin 4) : res_main_v122 V0 (ix2 l w) = ((θ l w 0 : ℝ) : EReal) := by
  rw [← hθ]
  unfold res_main_v122
  clean_types
  pointwise
theorem theta_at (l : Fin 2) (w : Fin 4) : res_main_v124 V0 (ix2 l w) = ((θ l w 1 : ℝ) : EReal) := by
  rw [← hθ]
  unfold res_main_v124
  clean_types
  pointwise
theorem omega_at (l : Fin 2) (w : Fin 4) : res_main_v126 V0 (ix2 l w) = ((θ l w 2 : ℝ) : EReal) := by
  rw [← hθ]
  unfold res_main_v126
  clean_types
  pointwise

theorem ct_at (l : Fin 2) (w : Fin 4) : res_main_v129 V0 (ix2 l w) = ((Real.cos (θ l w 1 * (1 / 2)) : ℝ) : EReal) := by
  have h := theta_at hθ l w
  unfold res_main_v129
  generalize res_main_v124 V0 = A at h
  pointwise
  rw [h, Row.two32, Ideal.div_coe (by norm_num), ← EReal.coe_mul, Ideal.cos_coe]
theorem st_at (l : Fin 2) (w : Fin 4) : res_main_v132 V0 (ix2 l w) = ((Real.sin (θ l w 1 * (1 / 2)) : ℝ) : EReal) := by
  have h := theta_at hθ l w
  unfold res_main_v132
  generalize res_main_v124 V0 = A at h
  pointwise
  rw [h, Row.two32, Ideal.div_coe (by norm_num), ← EReal.coe_mul, Ideal.sin_coe]
theorem alpha_at (l : Fin 2) (w : Fin 4) : res_main_v135 V0 (ix2 l w) = (((θ l w 0 + θ l w 2) * (1 / 2) : ℝ) : EReal) := by
  have h := phi_at hθ l w
  have h' := omega_at hθ l w
  unfold res_main_v135
  generalize res_main_v122 V0 = A at h
  generalize res_main_v126 V0 = B at h'
  pointwise
  rw [h, h', Row.two32, Ideal.div_coe (by norm_num), ← EReal.coe_add, ← EReal.coe_mul]
theorem beta_at (l : Fin 2) (w : Fin 4) : res_main_v138 V0 (ix2 l w) = (((θ l w 0 - θ l w 2) * (1 / 2) : ℝ) : EReal) := by
  have h := phi_at hθ l w
  have h' := omega_at hθ l w
  unfold res_main_v138
  generalize res_main_v122 V0 = A at h
  generalize res_main_v126 V0 = B at h'
  pointwise
  rw [h, h', Row.two32, Ideal.div_coe (by norm_num), ← EReal.coe_sub, ← EReal.coe_mul]
theorem ca_at (l : Fin 2) (w : Fin 4) : res_main_v139 V0 (ix2 l w) = ((Real.cos ((θ l w 0 + θ l w 2) * (1 / 2)) : ℝ) : EReal) := by
  have h := alpha_at hθ l w
  unfold res_main_v139
  generalize res_main_v135 V0 = A at h
  pointwise
  rw [h, Ideal.cos_coe]
theorem sa_at (l : Fin 2) (w : Fin 4) : res_main_v140 V0 (ix2 l w) = ((Real.sin ((θ l w 0 + θ l w 2) * (1 / 2)) : ℝ) : EReal) := by
  have h := alpha_at hθ l w
  unfold res_main_v140
  generalize res_main_v135 V0 = A at h
  pointwise
  rw [h, Ideal.sin_coe]
theorem cb_at (l : Fin 2) (w : Fin 4) : res_main_v141 V0 (ix2 l w) = ((Real.cos ((θ l w 0 - θ l w 2) * (1 / 2)) : ℝ) : EReal) := by
  have h := beta_at hθ l w
  unfold res_main_v141
  generalize res_main_v138 V0 = A at h
  pointwise
  rw [h, Ideal.cos_coe]
theorem sb_at (l : Fin 2) (w : Fin 4) : res_main_v142 V0 (ix2 l w) = ((Real.sin ((θ l w 0 - θ l w 2) * (1 / 2)) : ℝ) : EReal) := by
  have h := beta_at hθ l w
  unfold res_main_v142
  generalize res_main_v138 V0 = A at h
  pointwise
  rw [h, Ideal.sin_coe]

theorem gate_at (l : Fin 2) (w : Fin 4) (R C : Fin 2) : Rep (res_main_v165 V0 (ix4 l w R C)) (res_main_v166 V0 (ix4 l w R C)) (gate (θ l w 0) (θ l w 1) (θ l w 2) R C) := by
  have h1 := ct_at hθ l w
  have h2 := st_at hθ l w
  have h3 := ca_at hθ l w
  have h4 := sa_at hθ l w
  have h5 := cb_at hθ l w
  have h6 := sb_at hθ l w
  unfold res_main_v165 res_main_v166
  generalize res_main_v129 V0 = a1 at h1
  generalize res_main_v132 V0 = a2 at h2
  generalize res_main_v139 V0 = a3 at h3
  generalize res_main_v140 V0 = a4 at h4
  generalize res_main_v141 V0 = a5 at h5
  generalize res_main_v142 V0 = a6 at h6
  constructor
  · pointwise
    rw [h1, h2, h3, h5]
    unfold gate
    simp only [← EReal.coe_neg, ← EReal.coe_mul]
    fin_cases R <;> fin_cases C <;> rfl
  · pointwise
    rw [h1, h2, h4, h6]
    unfold gate
    simp only [← EReal.coe_neg, ← EReal.coe_mul]
    fin_cases R <;> fin_cases C <;> rfl

theorem gate01_at (l : Fin 2) (R C : Fin 4) : Rep (res_main_v203 V0 (ix5 l R 0 C 0)) (res_main_v204 V0 (ix5 l R 0 C 0))
    (gate (θ l 0 0) (θ l 0 1) (θ l 0 2) ⟨R.val / 2, by omega⟩ ⟨C.val / 2, by omega⟩ * gate (θ l 1 0) (θ l 1 1) (θ l 1 2) ⟨R.val % 2, by omega⟩ ⟨C.val % 2, by omega⟩) := by
  have h := (gate_at hθ l 0 ⟨R.val / 2, by omega⟩ ⟨C.val / 2, by omega⟩).mul (gate_at hθ l 1 ⟨R.val % 2, by omega⟩ ⟨C.val % 2, by omega⟩)
  unfold res_main_v203 res_main_v204 res_main_v183 res_main_v184 res_main_v185 res_main_v186
  generalize res_main_v165 V0 = A at h
  generalize res_main_v166 V0 = B at h
  constructor
  · refine Eq.trans ?_ h.re
    pointwise
  · refine Eq.trans ?_ h.im
    pointwise

theorem gate2_at (l : Fin 2) (R C : Fin 2) : Rep (res_main_v205 V0 (ix5 l 0 R 0 C)) (res_main_v206 V0 (ix5 l 0 R 0 C)) (gate (θ l 2 0) (θ l 2 1) (θ l 2 2) R C) := by
  have h := gate_at hθ l 2 R C
  unfold res_main_v205 res_main_v206
  generalize res_main_v165 V0 = A at h
  generalize res_main_v166 V0 = B at h
  constructor
  · refine Eq.trans ?_ h.re
    pointwise
  · refine Eq.trans ?_ h.im
    pointwise

/-- A layer's rotations. -/
theorem lay_at (l : Fin 2) (R C : Fin 16) : Rep (res_main_v241 V0 (ix3 l R C)) (res_main_v242 V0 (ix3 l R C)) (lay (θ l) R C) := by
  have h : Rep _ _ (lay (θ l) R C) := ((gate01_at hθ l ⟨R.val / 2 / 2, by omega⟩ ⟨C.val / 2 / 2, by omega⟩).mul (gate2_at hθ l ⟨R.val / 2 % 2, by omega⟩ ⟨C.val / 2 % 2, by omega⟩)).mul
    (gate_at hθ l 3 ⟨R.val % 2, by omega⟩ ⟨C.val % 2, by omega⟩)
  unfold res_main_v241 res_main_v242 res_main_v223 res_main_v224 res_main_v225 res_main_v226
  generalize res_main_v165 V0 = A at h
  generalize res_main_v166 V0 = B at h
  generalize res_main_v203 V0 = D at h
  generalize res_main_v204 V0 = E at h
  generalize res_main_v205 V0 = G at h
  generalize res_main_v206 V0 = H at h
  constructor
  · refine Eq.trans ?_ h.re
    pointwise
  · refine Eq.trans ?_ h.im
    pointwise
end gates

theorem word0 : ∀ R C : Fin 16, lit0 (S16x16.rowMajor (ix2 R C)) = if C = from0 R then 1065353216#32 else 0#32 := by decide +kernel
theorem word1 : ∀ R C : Fin 16, lit1 (S16x16.rowMajor (ix2 R C)) = if C = from1 R then 1065353216#32 else 0#32 := by decide +kernel

theorem ring0_at (R C : Fin 16) : Ideal.ofBits FTy.f32 (lit0 (S16x16.rowMajor (ix2 R C))) = ((pm from0 R C : ℝ) : EReal) := by
  rw [word0]; unfold pm; split_ifs
  · exact Row.one32
  · exact Row.zero32
theorem ring1_at (R C : Fin 16) : Ideal.ofBits FTy.f32 (lit1 (S16x16.rowMajor (ix2 R C))) = ((pm from1 R C : ℝ) : EReal) := by
  rw [word1]; unfold pm; split_ifs
  · exact Row.one32
  · exact Row.zero32

theorem word2 : ∀ (k : Fin 16) (w : Fin 4), lit2 (S16x4.rowMajor (ix2 k w)) = if bit w k = 0 then 1065353216#32 else 3212836864#32 := by decide +kernel
theorem sgn_at (k : Fin 16) (w : Fin 4) : Ideal.ofBits FTy.f32 (lit2 (S16x4.rowMajor (ix2 k w))) = ((sgn k w : ℝ) : EReal) := by
  rw [word2]; unfold sgn; split_ifs
  · exact Row.one32
  · exact Row.negone32

section layers
variable {T : Fin 8192} {a : Fin 4 → ℝ} (ha : ∀ w, Ideal.div (res_main_v30 V0 (ix2 T w)) (Ideal.ofBits FTy.f32 1073741824#32) = ((a w : ℝ) : EReal))
variable {θ : Fin 2 → Fin 4 → Fin 3 → ℝ} (hθ : ∀ l w c, (V0 (Proc.devRef .tc main_arg10) (ix3 l w c) : EReal) = ((θ l w c : ℝ) : EReal))
include ha hθ

theorem first_at (k : Fin 16) : Rep (res_main_v253 V0 (ix2 T k)) (res_main_v254 V0 (ix2 T k)) (step (lay (θ 0)) from0 (prod fun w => ket (a w)) k) := by
  have h : Rep _ _ (step (lay (θ 0)) from0 (prod fun w => ket (a w)) k) := Rep.rdot (fun x => Rep.dot (psi_at ha) (lay_at hθ 0 x)) (ring0_at k)
  unfold res_main_v253 res_main_v254 res_main_v244 res_main_v246
  generalize res_main_v119 V0 = A at h
  generalize res_main_v120 V0 = B at h
  generalize res_main_v241 V0 = C at h
  generalize res_main_v242 V0 = D at h
  unfold res_main_cst
  constructor
  · refine Eq.trans ?_ h.re
    pointwise
  · refine Eq.trans ?_ h.im
    pointwise
    exact Finset.sum_congr rfl fun x _ => congrArg (· * _) (add_comm _ _)

theorem final_at (k : Fin 16) : Rep (res_main_v265 V0 (ix2 T k)) (res_main_v266 V0 (ix2 T k)) (final a θ k) := by
  have h : Rep _ _ (final a θ k) := Rep.rdot (fun x => Rep.dot (first_at ha hθ) (lay_at hθ 1 x)) (ring1_at k)
  unfold res_main_v265 res_main_v266 res_main_v256 res_main_v258
  generalize res_main_v253 V0 = A at h
  generalize res_main_v254 V0 = B at h
  generalize res_main_v241 V0 = C at h
  generalize res_main_v242 V0 = D at h
  unfold res_main_cst_0
  constructor
  · refine Eq.trans ?_ h.re
    pointwise
  · refine Eq.trans ?_ h.im
    pointwise
    exact Finset.sum_congr rfl fun x _ => congrArg (· * _) (add_comm _ _)
end layers

end Cert.ReferenceIdeal.Value
-- ==== Proof.Circuit.lean ====
/- The circuit's branch: the kernel's rows are the reference's. -/
module
public import proofs.«01_k».proof.Proof.Value
public import proofs.«01_k».proof.Proof.KerCirc
public import proofs.«01_k».proof.Proof.RefCirc
@[expose] public section
set_option maxRecDepth 16384
noncomputable section
namespace Cert.KernelIdeal.Hand
open Idealize.ShloMosaic Idealize.ShloMosaic.TcCoe Idealize.ShloMosaic.Tactic
open Cert.KernelIdeal.Gen Cert.Circuit
variable (m : (ℓ : Loc nD τ sig) → Buf (Elt Ideal) ℓ)
variable (V0 : Valuation Cert.ReferenceIdeal.τ Cert.ReferenceIdeal.sig (Elt Ideal))

/-- A wire's half angle is a real number, the same one in both programs: the clip bounds what is under the sigmoid. -/
theorem half_real (x W : Fin 1024 → EReal) (b : EReal) :
    ∃ a : ℝ, khalf x W b = (a : EReal) ∧ Ideal.div (Cert.ReferenceIdeal.Value.ang x W b) (Ideal.ofBits FTy.f32 1073741824#32) = (a : EReal) := by
  unfold khalf Cert.ReferenceIdeal.Value.ang
  generalize (∑ k, x k * W k + b) = z
  have hlo : ((-10 : ℝ) : EReal) ≤ min (Ideal.ofBits FTy.f32 1092616192#32) (max (Ideal.ofBits FTy.f32 3240099840#32) z) := by
    rw [Row.ten32, Row.negten32]
    exact le_min (by exact_mod_cast (by norm_num : (-10 : ℝ) ≤ 10)) (le_max_left _ _)
  have hhi : min (Ideal.ofBits FTy.f32 1092616192#32) (max (Ideal.ofBits FTy.f32 3240099840#32) z) ≤ ((10 : ℝ) : EReal) := by
    rw [Row.ten32]
    exact min_le_left _ _
  generalize min (Ideal.ofBits FTy.f32 1092616192#32) (max (Ideal.ofBits FTy.f32 3240099840#32) z) = v at hlo hhi
  obtain ⟨r, rfl⟩ : ∃ r : ℝ, v = (r : EReal) := ⟨v.toReal, (EReal.coe_toReal (ne_top_of_le_ne_top (EReal.coe_ne_top _) hhi) (ne_bot_of_le_ne_bot (EReal.coe_ne_bot _) hlo)).symm⟩
  have hs : Ideal.div 1 (1 + Ideal.exp (-(r : EReal))) = (((1 + Real.exp (-r))⁻¹ : ℝ) : EReal) := Ideal.logistic_coe r
  refine ⟨(1 + Real.exp (-r))⁻¹ * (13176795 / 8388608), ?_, ?_⟩
  · rw [Ideal.logistic_coe, Row.halfpi32, ← EReal.coe_mul]
  · rw [hs, Row.pi32, Row.two32, Ideal.div_coe (by norm_num), ← EReal.coe_mul, ← EReal.coe_mul]
    exact congrArg (fun r : ℝ => (r : EReal)) (by ring)

/-- The arguments that have to be finite. -/
structure Finite : Prop where
  up : ∀ (w : Fin 4) (d : Fin 1024), ∃ r : ℝ, m (((0 : Dev nD) : Thread nD τ).loc main_arg8) (ix2 w d) = (r : EReal)
  angles : ∀ (l : Fin 2) (w : Fin 4) (k : Fin 3), ∃ r : ℝ, m (((0 : Dev nD) : Thread nD τ).loc main_arg10) (ix3 l w k) = (r : EReal)
  scale : ∃ r : ℝ, m (((0 : Dev nD) : Thread nD τ).loc main_arg11) Idealize.ShloMosaic.ix0 = (r : EReal)

theorem absf_coe (r : ℝ) : FloatOps.absf (F := Ideal) (φ := .f32) (r : EReal) = ((max r (-r) : ℝ) : EReal) := by
  show max (r : EReal) (-(r : EReal)) = _
  rw [← EReal.coe_neg]
  exact (EReal.coe_strictMono.monotone.map_max).symm

theorem lnorm_congr {y y' : Fin 1024 → EReal} {g g' s s' : EReal} {d : Fin 1024} (hy : ∀ x, y x = y' x) (hg : g = g') (hs : s = s') :
    Row.lnorm y g s d = Row.lnorm y' g' s' d := by
  obtain rfl : y = y' := funext hy
  rw [hg, hs]

theorem fac_coe {c s : Fin 4 → EReal} {a : Fin 4 → ℝ} (hc : ∀ w, c w = ((Real.cos (a w) : ℝ) : EReal)) (hs : ∀ w, s w = ((Real.sin (a w) : ℝ) : EReal)) (w : Fin 4) (j : Fin 2) :
    fac c s w j = ((mag1 (a w) j : ℝ) : EReal) := by
  unfold fac mag1
  split_ifs
  · exact hc w
  · exact hs w

/-- The kernel's products are the magnitudes of the encoded state. -/
theorem mags_coe {c s : FVec Ideal S512x4 .f32} {a : Fin 4 → ℝ} {r : Fin 512} (hc : ∀ w, c (ix2 r w) = ((Real.cos (a w) : ℝ) : EReal))
    (hs : ∀ w, s (ix2 r w) = ((Real.sin (a w) : ℝ) : EReal)) (k : Fin 16) : mags c s (ix2 r k) = ((mag a k : ℝ) : EReal) := by
  rw [mags_at]
  simp only [fac_coe hc hs, ← EReal.coe_mul]
  rfl

/-- The kernel's row before the normalization, in the reference's terms. -/
theorem row_eq {x0 : Vec Ideal S1x512x1024 .f32} {g : FVec Ideal S512x16 .f32} {A B : Vec Ideal S16x16 .f32} {w : Vec Ideal S16x1024 .f32} {r : Fin 512} {d : Fin 1024}
    {a : Fin 4 → ℝ} {θ : Fin 2 → Fin 4 → Fin 3 → ℝ} {p q : Fin 16 → EReal} {Z : Fin 16 → Fin 4 → EReal} {W : Fin 4 → ℝ} {U : Fin 4 → EReal} {x b s' : EReal} {s : ℝ}
    (hg : ∀ j, g (ix2 r j) = ((mag a j : ℝ) : EReal))
    (hAB : ∀ k j, Rep (A (ix2 k j)) (B (ix2 k j)) (both (lay (θ 0)) (lay (θ 1)) from0 from1 k j * ph j))
    (hw : ∀ k, w (ix2 k d) = (∑ v, (sgn k v : EReal) * (W v : EReal) + b) * (s : EReal))
    (hx : x0 (ix3 0 r d) = x) (hpq : ∀ k, Rep (p k) (q k) (final a θ k)) (hZ : ∀ k v, Z k v = ((sgn k v : ℝ) : EReal)) (hU : ∀ v, U v = ((W v : ℝ) : EReal)) (hs : s' = (s : EReal)) :
    preQ (k0_pay2 x0) g A B w (ix2 r d) = Cert.ReferenceIdeal.Value.rowQ x p q Z U b s' := by
  have hφ : ∀ k, Rep (∑ j, g (ix2 r j) * A (ix2 k j)) (∑ j, g (ix2 r j) * B (ix2 k j)) (final a θ k) := fun k => by
    rw [final_eq]
    exact Rep.ldot hg (hAB k)
  rw [preQ_at, hx]
  unfold Cert.ReferenceIdeal.Value.rowQ
  simp only [fun k => (hφ k).norm, fun k => (hpq k).norm, hw, hZ, hU, hs]
  exact congrArg (x + ·) (fold_ext (final_norm a θ) (fun k => Complex.normSq_nonneg _) _ _ _ _)

variable {m V0}

/-- A block of an item routed to the circuit is the reference's. -/
theorem circuit_rows (h : Agree m V0) (hf : Finite m) (b : Fin 4) : CircuitRows m V0 b := by
  intro g r d
  choose W hW using hf.up
  choose θ hθ using hf.angles
  obtain ⟨s, hs⟩ := hf.scale
  have hx : ∀ k, iblk m 0 0 (pt b g) (ix3 0 r k) = V0 (Proc.devRef .tc Cert.ReferenceIdeal.main_arg0) (ix3 b ⟨g.val * 512 + r.val, by omega⟩ k) :=
    fun k => (iblk0 m 0 r k b g).trans (congrFun h.a0 _).symm
  have hWd : ∀ k w, iblk m 0 5 (pt b g) (ix2 k w) = V0 (Proc.devRef .tc Cert.ReferenceIdeal.main_arg6) (ix2 k w) :=
    fun k w => ((blk5 m 0 _ _).trans (V_Wd m 0 k w)).trans (congrFun h.a6 _).symm
  have hbd : ∀ w, iblk m 0 6 (pt b g) (ix2 0 w) = V0 (Proc.devRef .tc Cert.ReferenceIdeal.main_arg7) (ix1 w) :=
    fun w => ((blk6 m 0 _ _).trans (V_bd m 0 w)).trans (congrFun h.a7 _).symm
  choose a ha ha' using fun w : Fin 4 => half_real (fun k => iblk m 0 0 (pt b g) (ix3 0 r k)) (fun k => iblk m 0 5 (pt b g) (ix2 k w)) (iblk m 0 6 (pt b g) (ix2 0 w))
  have hang : ∀ w, Ideal.div (Cert.ReferenceIdeal.Value.res_main_v30 V0 (ix2 ⟨b.val * 2048 + (g.val * 512 + r.val), by omega⟩ w)) (Ideal.ofBits FTy.f32 1073741824#32) = ((a w : ℝ) : EReal) := fun w => by
    refine Eq.trans ?_ (ha' w)
    refine congrArg (fun z => Ideal.div z _) ((Cert.ReferenceIdeal.Value.v30_at V0 b ⟨g.val * 512 + r.val, by omega⟩ w).trans ?_)
    rw [funext hx, funext fun k => hWd k w, hbd w]
  have hθ' : ∀ l w k, V0 (Proc.devRef .tc Cert.ReferenceIdeal.main_arg10) (ix3 l w k) = ((θ l w k : ℝ) : EReal) := fun l w k => (congrFun h.a10 _).trans (hθ l w k)
  refine (congrFun (outQ_form _ _ _ _ _ _ _ _) _).trans ((norm_at _ _ _ r d).trans ?_)
  refine lnorm_congr (fun x => ?_) (((blk12 m 0 _ _).trans (V_gamma m 0 d)).trans (congrFun h.a12 _).symm) (((blk13 m 0 _ _).trans (V_beta m 0 d)).trans (congrFun h.a13 _).symm)
  refine Eq.trans ?_ (Cert.ReferenceIdeal.Value.refQ_at V0 b ⟨g.val * 512 + r.val, by omega⟩ x).symm
  refine row_eq (a := a) (θ := θ) (W := fun w => W w x) (s := max s (-s)) (mags_coe (fun w => ?_) (fun w => ?_))
    (circ_rep (fun l w R C => ?_) (fun R C => (blk14 m 0 _ _).trans (V_ring0 m 0 R C)) (fun R C => (blk15 m 0 _ _).trans (V_ring1 m 0 R C)) (fun C => ?_))
    (fun k => ?_) (hx x) (fun k => Cert.ReferenceIdeal.Value.final_at hang hθ' k) (fun k w => Cert.ReferenceIdeal.Value.sgn_at k w)
    (fun w => (congrFun h.a8 _).trans (hW w x)) ?_
  · exact (cos_at _ _ _ r w).trans (by rw [ha w, Ideal.cos_coe])
  · exact (sin_at _ _ _ r w).trans (by rw [ha w, Ideal.sin_coe])
  · have hr := V_gate m 0 θ hθ l w R C
    exact ⟨(blk7 m 0 _ _).trans hr.re, (blk8 m 0 _ _).trans hr.im⟩
  · have hr := V_phase m 0 C
    exact ⟨(blk16 m 0 _ _).trans hr.re, (blk16 m 0 _ _).trans hr.im⟩
  · refine (upW_at _ _ _ _ k x).trans (congrArg₂ (· * ·) (congrArg₂ (· + ·) ?_ ?_) ?_)
    · exact sum_padded (Z := sgn k) (W := fun w => W w x) (fun w => (blk17 m 0 _ _).trans (V_sgn m 0 k w)) (fun w => ((blk9 m 0 _ _).trans (V_Wu m 0 w x)).trans (hW w x))
        (fun w => (blk17 m 0 _ _).trans (V_pad m 0 k w))
    · exact ((blk10 m 0 _ _).trans (V_bu m 0 x)).trans (congrFun h.a9 _).symm
    · exact ((blk11 m 0 _ _).trans (V_qs m 0)).trans ((congrArg (FloatOps.absf (F := Ideal) (φ := .f32)) hs).trans (absf_coe s))
  · exact (congrArg (FloatOps.absf (F := Ideal) (φ := .f32)) ((congrFun h.a11 _).trans hs)).trans (absf_coe s)

end Cert.KernelIdeal.Hand
-- ==== Proof.lean ====
module

public import proofs.«01_k».proof.Defs
public import proofs.«01_k».proof.Proof.IdealRun
public import proofs.«01_k».proof.Proof.BitsRun
public import proofs.«01_k».proof.Proof.Value
public import proofs.«01_k».proof.Proof.Circuit
public import Idealize.ShloMosaic.Lib.ReduceAll
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments as they were and every semaphore at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's bf16 constant stands for the reciprocal of the square root of two. -/
theorem preserves : Cert.preserves_Kernel_KernelIdeal := by
  unfold Cert.preserves_Kernel_KernelIdeal
  exact IdealRules.named_const.statement Cert.KernelIdeal.κ "sqrt_half" .bf16 0x3F35#16 (((Real.sqrt 2)⁻¹ : ℝ) : EReal) rfl

/-- The side conditions of the precondition's own operations. -/
theorem pre_facts : Cert.Pre_finite.Facts := ⟨by decide, by decide, by decide, by decide, by decide⟩

/-- A conjunction that came out true. -/
theorem both_of_one : ∀ x y : BitVec 1, x &&& y = 1#1 → x = 1#1 ∧ y = 1#1 := by decide

/-- A number whose magnitude came out below infinity is real. -/
theorem real_of_one (x : EReal) (h : BitVec.ofBool (decide (max x (-x) < Ideal.ofBits FTy.f32 2139095040#32)) = 1#1) : ∃ r : ℝ, x = (r : EReal) := by
  rw [Cert.Row.inf32] at h
  have hlt : max x (-x) < ⊤ := by
    by_contra hn
    rw [decide_eq_false hn] at h
    exact absurd h (by decide)
  have h1 := max_lt_iff.1 hlt
  refine ⟨x.toReal, (EReal.coe_toReal h1.1.ne fun hb => ?_).symm⟩
  rw [hb, EReal.neg_bot] at h1
  exact lt_irrefl _ h1.2

/-- The precondition, read: the up-projection, the circuit's angles and the scale are real numbers. -/
theorem finite_args [Cert.Pre_finite.Facts] (m : (ℓ : Loc Cert.KernelIdeal.nD Cert.KernelIdeal.τ Cert.KernelIdeal.sig) → Buf (Elt Ideal) ℓ)
    (h : Cert.Pre_KernelIdeal_finite m) : Cert.KernelIdeal.Hand.Finite m := by
  have h0 := congrFun (h 0) (Shape.Idx.first (by decide))
  unfold Cert.Pre_finite.fn at h0
  have : Subsingleton Cert.Pre_finite.S_.Idx := ⟨fun a b => funext fun i => i.elim0⟩
  obtain ⟨h1, hs⟩ := both_of_one _ _ h0
  obtain ⟨hu, ha⟩ := both_of_one _ _ h1
  refine ⟨fun w d => ?_, fun l w k => ?_, ?_⟩
  · exact real_of_one _ (Host.reduce_andi_all _ _ _ _ _ hu (ix2 w d))
  · exact real_of_one _ (Host.reduce_andi_all _ _ _ _ _ ha (ix3 l w k))
  · have e : (Shape.Idx.first (by decide) : Cert.Pre_finite.S_.Idx) = Idealize.ShloMosaic.ix0 := Subsingleton.elim _ _
    rw [e] at hs
    exact real_of_one _ hs

/-- The kernel's result is the reference's. -/
theorem algebraic [Cert.Pre_finite.Facts] : Cert.algebraic_KernelIdeal_ReferenceIdeal_pre_finite := by
  intro m ρ m' ρ' hpre hagree
  refine ⟨_, Cert.KernelIdeal.Hand.value_run m ρ, ?_⟩
  refine (θ_run Cert.ReferenceIdeal.defs _ _).mono (fun _ h c => ⟨(h c).1.trans ?_, (h c).2⟩) (Cert.ReferenceIdeal.Value.run (F := Ideal) m' ρ')
  obtain rfl : c = 0 := Subsingleton.elim (α := Fin 1) _ _
  obtain ⟨h0, h1, h2, h3, h4, h5, h6, h7, h8, h9, h10, h11, h12, h13⟩ := hagree 0
  have hA : Cert.KernelIdeal.Hand.Agree m (StableHlo.launchContents m' 0) := ⟨h0, h1, h2, h3, h4, h5, h6, h7, h8, h9, h10, h11, h12, h13⟩
  exact (Cert.KernelIdeal.Hand.result_eq hA fun b _ => Cert.KernelIdeal.Hand.circuit_rows hA (finite_args m hpre) b).symm

/-- The claim. -/
theorem claim : Cert.Claim := ⟨Cert.Kernel.Gen.facts, Cert.KernelIdeal.Gen.facts, Cert.ReferenceIdeal.Gen.facts, pre_facts,
  fun m ρ _ => Cert.Kernel.Hand.frame m ρ, fun m ρ _ => Cert.KernelIdeal.Hand.frame m ρ, fun m ρ _ => Cert.KernelIdeal.Hand.frame m ρ,
  reference_frame, fun m ρ _ => reference_frame m ρ trivial, preserves, @algebraic pre_facts⟩

end Cert.Proof

end
